-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2050 : Shape := ⟨2, ![4096, 2050]⟩
abbrev S8x2050 : Shape := ⟨2, ![8, 2050]⟩
abbrev S16 : Shape := ⟨1, ![16]⟩
abbrev S_ : Shape := ⟨0, ![]⟩

abbrev nBuf : Table → Nat
  | .hbm => 3
  | .local .scVector .vmem => 3
  | _ => 0

abbrev bufTy : (tb : Table) → Fin (nBuf tb) → BufTy
  | .hbm, ⟨0, _⟩ => ⟨S4096x2050, .i32⟩
  | .hbm, ⟨1, _⟩ => ⟨S4096x2050, .i32⟩
  | .hbm, ⟨2, _⟩ => ⟨S4096x2050, .i32⟩
  | .local .scVector .vmem, ⟨0, _⟩ => ⟨S8x2050, .i32⟩
  | .local .scVector .vmem, ⟨1, _⟩ => ⟨S8x2050, .i32⟩
  | .local .scVector .vmem, ⟨2, _⟩ => ⟨S8x2050, .i32⟩
  | _, _ => ⟨S4096x2050, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v5 : BitVec 32 := Scalar.muli v1 c128_i32
  let c0_i32_0 : BitVec 32 := 0#32
  let c1_i32 : BitVec 32 := 1#32
  let arg8 : BitVec 32 := Scf.iv c0_i32_0 c1_i32 k0_t1
  let c8_i32 : BitVec 32 := 8#32
  let v6 : BitVec 32 := Scalar.muli arg8 c8_i32
  let v7 : BitVec 32 := Scalar.addi v5 v6
  let c0_i32_20_r0 : BitVec 32 := 0#32
  ![v7.toNat, 0]
@[reducible] def k0_t2_loop : Scf.Loop 32 :=
  let c0_i32_3 : BitVec 32 := 0#32
  let c8_i32_4 : BitVec 32 := 8#32
  let v8 : BitVec 32 := Scalar.addi c0_i32_3 c8_i32_4
  let c1_i32_5 : BitVec 32 := 1#32
  ⟨c0_i32_3, v8, c1_i32_5⟩
@[reducible] def k0_t3_loop : Scf.Loop 32 :=
  let c0_i32_21 : BitVec 32 := 0#32
  let c128_i32_22 : BitVec 32 := 128#32
  let v47 : BitVec 32 := Scalar.addi c0_i32_21 c128_i32_22
  let c1_i32_23 : BitVec 32 := 1#32
  ⟨c0_i32_21, v47, c1_i32_23⟩

def k0_chk2 (v46 : IVec S16 32) (v57 : IVec S16 32) : Prop :=
  (∀ a x, ((![v46, v57] : Fin 2 → IVec S16 32) a x).toNat < S8x2050.size a)
theorem k0_idx2_inb : ∀ (v46 : IVec S16 32) (v57 : IVec S16 32) (k0_hw2 : k0_chk2 v46 v57), ∀ a x, ((![v46, v57] : Fin 2 → IVec S16 32) a x).toNat < S8x2050.size a := fun v46 v57 k0_hw2 => k0_hw2

def k0_chk1 (v46 : IVec S16 32) (v51 : IVec S16 32) : Prop :=
  (∀ a x, ((![v46, v51] : Fin 2 → IVec S16 32) a x).toNat < S8x2050.size a) ∧
  (∀ a x, ((![v46, v51] : Fin 2 → IVec S16 32) a x).toNat < S8x2050.size a) ∧
  (∀ a x, ((![v46, v51] : Fin 2 → IVec S16 32) a x).toNat < S8x2050.size a)
theorem k0_idx1_inb : ∀ (v46 : IVec S16 32) (v51 : IVec S16 32) (k0_hw1 : k0_chk1 v46 v51), ∀ a x, ((![v46, v51] : Fin 2 → IVec S16 32) a x).toNat < S8x2050.size a := fun v46 v51 k0_hw1 => k0_hw1.1
theorem k0_idx3_inb : ∀ (v46 : IVec S16 32) (v51 : IVec S16 32) (k0_hw1 : k0_chk1 v46 v51), ∀ a x, ((![v46, v51] : Fin 2 → IVec S16 32) a x).toNat < S8x2050.size a := fun v46 v51 k0_hw1 => k0_hw1.2.1
theorem k0_idx4_inb : ∀ (v46 : IVec S16 32) (v51 : IVec S16 32) (k0_hw1 : k0_chk1 v46 v51), ∀ a x, ((![v46, v51] : Fin 2 → IVec S16 32) a x).toNat < S8x2050.size a := fun v46 v51 k0_hw1 => k0_hw1.2.2

def k0_chk4 (v11 : IVec S16 32) (v21 : IVec S16 32) : Prop :=
  (∀ a x, ((![v11, v21] : Fin 2 → IVec S16 32) a x).toNat < S8x2050.size a)
theorem k0_idx6_inb : ∀ (v11 : IVec S16 32) (v21 : IVec S16 32) (k0_hw4 : k0_chk4 v11 v21), ∀ a x, ((![v11, v21] : Fin 2 → IVec S16 32) a x).toNat < S8x2050.size a := fun v11 v21 k0_hw4 => k0_hw4

def k0_chk3 (v11 : IVec S16 32) (v15 : IVec S16 32) : Prop :=
  (∀ a x, ((![v11, v15] : Fin 2 → IVec S16 32) a x).toNat < S8x2050.size a) ∧
  (∀ a x, ((![v11, v15] : Fin 2 → IVec S16 32) a x).toNat < S8x2050.size a) ∧
  (∀ a x, ((![v11, v15] : Fin 2 → IVec S16 32) a x).toNat < S8x2050.size a)
theorem k0_idx5_inb : ∀ (v11 : IVec S16 32) (v15 : IVec S16 32) (k0_hw3 : k0_chk3 v11 v15), ∀ a x, ((![v11, v15] : Fin 2 → IVec S16 32) a x).toNat < S8x2050.size a := fun v11 v15 k0_hw3 => k0_hw3.1
theorem k0_idx7_inb : ∀ (v11 : IVec S16 32) (v15 : IVec S16 32) (k0_hw3 : k0_chk3 v11 v15), ∀ a x, ((![v11, v15] : Fin 2 → IVec S16 32) a x).toNat < S8x2050.size a := fun v11 v15 k0_hw3 => k0_hw3.2.1
theorem k0_idx8_inb : ∀ (v11 : IVec S16 32) (v15 : IVec S16 32) (k0_hw3 : k0_chk3 v11 v15), ∀ a x, ((![v11, v15] : Fin 2 → IVec S16 32) a x).toNat < S8x2050.size a := fun v11 v15 k0_hw3 => k0_hw3.2.2
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v5 : BitVec 32 := Scalar.muli v1 c128_i32
  let c0_i32_0 : BitVec 32 := 0#32
  let c1_i32 : BitVec 32 := 1#32
  let arg8 : BitVec 32 := Scf.iv c0_i32_0 c1_i32 k0_t1
  let c8_i32 : BitVec 32 := 8#32
  let v6 : BitVec 32 := Scalar.muli arg8 c8_i32
  let v7 : BitVec 32 := Scalar.addi v5 v6
  let c0_i32_20_r1 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2050 : Shape := ⟨2, ![4096, 2050]⟩
abbrev S_ : Shape := ⟨0, ![]⟩
abbrev S1 : Shape := ⟨1, ![1]⟩
abbrev S4 : Shape := ⟨1, ![4]⟩
abbrev S1x4 : Shape := ⟨2, ![1, 4]⟩
abbrev S512x4 : Shape := ⟨2, ![512, 4]⟩
abbrev S2048 : Shape := ⟨1, ![2048]⟩
abbrev S2050 : Shape := ⟨1, ![2050]⟩
abbrev S512 : Shape := ⟨1, ![512]⟩
abbrev S1x2050 : Shape := ⟨2, ![1, 2050]⟩
abbrev S1x1x1x2050 : Shape := ⟨4, ![1, 1, 1, 2050]⟩
abbrev S4096x1x1x2050 : Shape := ⟨4, ![4096, 1, 1, 2050]⟩
abbrev S512x1 : Shape := ⟨2, ![512, 1]⟩
abbrev S1x1 : Shape := ⟨2, ![1, 1]⟩
abbrev S4096x512 : Shape := ⟨2, ![4096, 512]⟩
abbrev S4096x512x4 : Shape := ⟨3, ![4096, 512, 4]⟩
abbrev S4096x2048 : Shape := ⟨2, ![4096, 2048]⟩
abbrev S4096x1 : Shape := ⟨2, ![4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S4096x2050, .i32⟩
  | .hbm, ⟨1, _⟩ => ⟨S_, .i32⟩
  | .hbm, ⟨2, _⟩ => ⟨S1, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S512x4, .i32⟩
  | .hbm, ⟨9, _⟩ => ⟨S2048, .i32⟩
  | .hbm, ⟨10, _⟩ => ⟨S_, .i32⟩
  | .hbm, ⟨11, _⟩ => ⟨S1, .i32⟩
  | .hbm, ⟨12, _⟩ => ⟨S2050, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S1x2050, .i32⟩
  | .hbm, ⟨24, _⟩ => ⟨S1x1x1x2050, .i32⟩
  | .hbm, ⟨25, _⟩ => ⟨S4096x1x1x2050, .i32⟩
  | .hbm, ⟨26, _⟩ => ⟨S4096x2050, .i32⟩
  | .hbm, ⟨27, _⟩ => ⟨S_, .i32⟩
  | .hbm, ⟨28, _⟩ => ⟨S4096x2050, .i32⟩
  | .hbm, ⟨29, _⟩ => ⟨S4096x2050, .i1⟩
  | .hbm, ⟨30, _⟩ => ⟨S_, .i32⟩
  | .hbm, ⟨31, _⟩ => ⟨S4096x2050, .i32⟩
  | .hbm, ⟨32, _⟩ => ⟨S4096x2050, .i1⟩
  | .hbm, ⟨33, _⟩ => ⟨S4096x2050, .i1⟩
  | .hbm, ⟨34, _⟩ => ⟨S_, .i32⟩
  | .hbm, ⟨35, _⟩ => ⟨S4096x2050, .i32⟩
  | .hbm, ⟨36, _⟩ => ⟨S4096x2050, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1, .i32⟩
  | .hbm, ⟨46, _⟩ => ⟨S_, .i32⟩
  | .hbm, ⟨47, _⟩ => ⟨S512x1, .i32⟩
  | .hbm, ⟨48, _⟩ => ⟨S512x1, .i1⟩
  | .hbm, ⟨49, _⟩ => ⟨S1x1, .i32⟩
  | .hbm, ⟨50, _⟩ => ⟨S512x1, .i32⟩
  | .hbm, ⟨51, _⟩ => ⟨S512x1, .i1⟩
  | .hbm, ⟨52, _⟩ => ⟨S512x1, .i1⟩
  | .hbm, ⟨53, _⟩ => ⟨S_, .i1⟩
  | .hbm, ⟨54, _⟩ => ⟨S512, .i1⟩
  | .hbm, ⟨55, _⟩ => ⟨S4096x512, .i32⟩
  | .hbm, ⟨56, _⟩ => ⟨S4096x512, .i1⟩
  | .hbm, ⟨57, _⟩ => ⟨S_, .i32⟩
  | .hbm, ⟨58, _⟩ => ⟨S4096x512, .i32⟩
  | .hbm, ⟨59, _⟩ => ⟨S4096x512, .i32⟩
  | .hbm, ⟨60, _⟩ => ⟨S4096x512x4, .i32⟩
  | .hbm, ⟨61, _⟩ => ⟨S4096x2048, .i32⟩
  | .hbm, ⟨62, _⟩ => ⟨S_, .i32⟩
  | .hbm, ⟨63, _⟩ => ⟨S4096x1, .i32⟩
  | .hbm, ⟨64, _⟩ => ⟨S4096x2050, .i32⟩
  | .hbm, ⟨65, _⟩ => ⟨S_, .i32⟩
  | .hbm, ⟨66, _⟩ => ⟨S512, .i32⟩
  | .hbm, ⟨67, _⟩ => ⟨S512, .i1⟩
  | .hbm, ⟨68, _⟩ => ⟨S_, .i32⟩
  | .hbm, ⟨69, _⟩ => ⟨S512, .i32⟩
  | .hbm, ⟨70, _⟩ => ⟨S512, .i32⟩
  | .hbm, ⟨71, _⟩ => ⟨S512, .i32⟩
  | .hbm, ⟨72, _⟩ => ⟨S512x1, .i32⟩
  | .hbm, ⟨73, _⟩ => ⟨S_, .i32⟩
  | .hbm, ⟨74, _⟩ => ⟨S4096x512, .i32⟩
  | .hbm, ⟨75, _⟩ => ⟨S4096x2050, .i32⟩
  | .hbm, ⟨76, _⟩ => ⟨S_, .i32⟩
  | .hbm, ⟨77, _⟩ => ⟨S4096x2050, .i32⟩
  | .hbm, ⟨78, _⟩ => ⟨S4096x2050, .i1⟩
  | .hbm, ⟨79, _⟩ => ⟨S_, .i32⟩
  | .hbm, ⟨80, _⟩ => ⟨S4096x2050, .i32⟩
  | .hbm, ⟨81, _⟩ => ⟨S4096x2050, .i32⟩
  | _, _ => ⟨S4096x2050, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_5 : Ref sig .tc := ⟨.hbm, 27, rfl⟩
abbrev main_v20 : Ref sig .tc := ⟨.hbm, 28, rfl⟩
abbrev main_v21 : Ref sig .tc := ⟨.hbm, 29, rfl⟩
abbrev main_c_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_7 : Ref sig .tc := ⟨.hbm, 34, rfl⟩
abbrev main_v25 : Ref sig .tc := ⟨.hbm, 35, rfl⟩
abbrev main_v26 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_c_4 : Ref sig .tc := ⟨.hbm, 57, rfl⟩
abbrev main_call1_v15 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_8 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_v32 : Ref sig .tc := ⟨.hbm, 66, rfl⟩
abbrev main_v33 : Ref sig .tc := ⟨.hbm, 67, rfl⟩
abbrev main_c_10 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_11 : Ref sig .tc := ⟨.hbm, 73, rfl⟩
abbrev main_v38 : Ref sig .tc := ⟨.hbm, 74, rfl⟩
abbrev main_v39 : Ref sig .tc := ⟨.hbm, 75, rfl⟩
abbrev main_c_12 : Ref sig .tc := ⟨.hbm, 76, rfl⟩
abbrev main_v40 : Ref sig .tc := ⟨.hbm, 77, rfl⟩
abbrev main_v41 : Ref sig .tc := ⟨.hbm, 78, rfl⟩
abbrev main_c_13 : Ref sig .tc := ⟨.hbm, 79, rfl⟩
abbrev main_v42 : Ref sig .tc := ⟨.hbm, 80, rfl⟩
abbrev main_v43 : Ref sig .tc := ⟨.hbm, 81, rfl⟩

abbrev nD : Nat := 1
abbrev τ : Topo := Topo.v7x

variable {F : FTy → Type} [FloatOps F]
-- ==== Proof.Value.lean ====
/-
  The two results as functions of the token array, and the arithmetic that relates them to what one lane of the kernel
  computes. A token array has rows of 2050 columns; the column counts, the row only carries it along:

  * the position of column `j` holding token `t` is `(j - 1) % 4 + 1` where `1 ≤ j ≤ 2048` and `t` is neither 0 nor 1,
    and 0 elsewhere (`posWord`);
  * the root token of column `j` is the token `s` at column `j - (j - 1) % 4` where `1 ≤ j ≤ 2048`, `(j - 1) % 4 ≠ 0`
    and `s ≠ 1`, and 0 elsewhere (`rootWord`, at the source column `srcCol`).

  Nothing here names a program: the kernel's proof uses the lane equations, the reference's proof uses the array functions.
-/
module

public import Idealize.ShloMosaic.PureOps

@[expose] public section

noncomputable section

namespace Cert.Proof.Value

open Idealize.ShloMosaic

/-! ## The results at one element -/

/-- The position word of column `j` at token `t`. -/
def posWord (j : ℕ) (t : BitVec 32) : BitVec 32 :=
  if 1 ≤ j ∧ j ≤ 2048 ∧ t ≠ 0#32 ∧ t ≠ 1#32 then BitVec.ofNat 32 ((j - 1) % 4 + 1) else 0#32

/-- The root word of column `j` whose source column holds `s`. -/
def rootWord (j : ℕ) (s : BitVec 32) : BitVec 32 :=
  if 1 ≤ j ∧ j ≤ 2048 ∧ (j - 1) % 4 ≠ 0 ∧ s ≠ 1#32 then s else 0#32

/-- The source column of column `j`: the first of its block of four (column 1 for column 0, whose root word does not
    depend on it). -/
def srcCol (j : ℕ) : ℕ := if j = 0 then 1 else j - (j - 1) % 4

theorem srcCol_lt {j : ℕ} (h : j < 2050) : srcCol j < 2050 := by
  unfold srcCol; split <;> omega

/-! ## The results as arrays -/

/-- An array of `n` rows of tokens. -/
abbrev Rows (n : ℕ) : Shape := ⟨2, ![n, 2050]⟩

theorem col_lt {n : ℕ} (i : (Rows n).Idx) : (i 1).val < 2050 := (i 1).isLt

/-- The element of `i`'s row at its source column. -/
def srcIdx {n : ℕ} (i : (Rows n).Idx) : (Rows n).Idx
  | 0 => i 0
  | 1 => ⟨srcCol (i 1).val, srcCol_lt (col_lt i)⟩

/-- The positions of an array of token rows, -/
def posOf {n : ℕ} (x : (Rows n).Idx → BitVec 32) : (Rows n).Idx → BitVec 32 := fun i => posWord (i 1).val (x i)
/-- and its root tokens. -/
def rootOf {n : ℕ} (x : (Rows n).Idx → BitVec 32) : (Rows n).Idx → BitVec 32 := fun i => rootWord (i 1).val (x (srcIdx i))

/-- Two indices of a token array with equal coordinates are equal. -/
theorem idx_ext {n : ℕ} {i j : (Rows n).Idx} (h0 : (i 0).val = (j 0).val) (h1 : (i 1).val = (j 1).val) : i = j := by
  funext a
  match a with
  | 0 => exact Fin.ext h0
  | 1 => exact Fin.ext h1

/-- The results of a block of rows are the results of the array, read at the block: both depend on one row's columns. -/
theorem posOf_block {n k : ℕ} (x : (Rows n).Idx → BitVec 32) (e : (Rows k).Idx → (Rows n).Idx)
    (h1 : ∀ i, (e i 1).val = (i 1).val) (i : (Rows k).Idx) : posOf (fun i => x (e i)) i = posOf x (e i) := by
  unfold posOf; rw [h1]
theorem rootOf_block {n k : ℕ} (x : (Rows n).Idx → BitVec 32) (e : (Rows k).Idx → (Rows n).Idx) (b : ℕ)
    (h0 : ∀ i, (e i 0).val = b + (i 0).val) (h1 : ∀ i, (e i 1).val = (i 1).val) (i : (Rows k).Idx) :
    rootOf (fun i => x (e i)) i = rootOf x (e i) := by
  show rootWord (i 1).val (x (e (srcIdx i))) = rootWord (e i 1).val (x (srcIdx (e i)))
  rw [h1, show e (srcIdx i) = srcIdx (e i) from idx_ext
    (by rw [h0]; show b + (i 0).val = (e i 0).val; rw [h0])
    (by rw [h1]; show srcCol (i 1).val = srcCol (e i 1).val; rw [h1])]

/-! ## One lane's arithmetic -/

theorem andi_bool (p q : Bool) : IntOp.andi (BitVec.ofBool p) (BitVec.ofBool q) = BitVec.ofBool (p && q) := by
  cases p <;> cases q <;> decide
theorem bool_one (p : Bool) : (BitVec.ofBool p = 1) ↔ p = true := by cases p <;> decide

/-- A column word's test `1 ≤ v ≤ 2048`, signed, is the test of its value. -/
theorem inside_word {v : BitVec 32} (h : v.toNat < 2050) :
    IntOp.andi (IntOp.cmpi .sge v 1#32) (IntOp.cmpi .sle v 2048#32) = BitVec.ofBool (decide (1 ≤ v.toNat ∧ v.toNat ≤ 2048)) := by
  have hi : v.toInt = v.toNat := BitVec.toInt_eq_toNat_of_lt (by omega)
  simp only [IntOp.cmpi, andi_bool, BitVec.sle_eq_decide, hi]
  congr 1
  rw [← Bool.decide_and]
  refine decide_eq_decide.mpr ?_
  have h1 : (1#32).toInt = 1 := by decide
  have h2 : (2048#32).toInt = 2048 := by decide
  rw [h1, h2]; omega

/-- The remainder of a column word less one by four, for every column: it is `(j - 1) % 4`, and `-1` at column 0. -/
theorem rem_word {v : BitVec 32} (h : v.toNat < 2050) :
    IntOp.remsi .vector (v - 1#32) 4#32 = if v.toNat = 0 then BitVec.allOnes 32 else BitVec.ofNat 32 ((v.toNat - 1) % 4) := by
  have hc : ¬ IntOp.SDivCorner (v - 1#32) 4#32 := by
    unfold IntOp.SDivCorner
    rintro (h | ⟨_, h⟩) <;> exact absurd h (by decide)
  unfold IntOp.remsi
  rw [if_neg hc]
  split
  next h0 =>
    have : v = 0#32 := BitVec.eq_of_toNat_eq h0
    subst this; decide
  next h0 =>
    have hv : (v - 1#32).toNat = v.toNat - 1 := by
      rw [BitVec.toNat_sub]; simp only [BitVec.toNat_ofNat]; omega
    have hi : (v - 1#32).toInt = ((v.toNat - 1 : ℕ) : ℤ) := by
      rw [BitVec.toInt_eq_toNat_of_lt (by omega), hv]
    apply BitVec.eq_of_toInt_eq
    rw [BitVec.toInt_srem, hi, show (4#32).toInt = 4 by decide, BitVec.toInt_eq_toNat_of_lt (by rw [BitVec.toNat_ofNat]; omega),
      BitVec.toNat_ofNat, Nat.mod_eq_of_lt (by omega), Int.tmod_eq_emod_of_nonneg (by omega)]
    omega

/-- The column a lane reads its source token at. -/
theorem src_word {v : BitVec 32} (h : v.toNat < 2050) :
    (v - IntOp.remsi .vector (v - 1#32) 4#32).toNat = srcCol v.toNat := by
  rw [rem_word h]
  unfold srcCol
  split
  next h0 =>
    have : v = 0#32 := BitVec.eq_of_toNat_eq h0
    subst this; decide
  next h0 =>
    rw [BitVec.toNat_sub, BitVec.toNat_ofNat]; omega

/-- The position word a lane computes from its column word `v` and token `t`. -/
theorem pos_lane {v : BitVec 32} (h : v.toNat < 2050) (t : BitVec 32) :
    Scalar.select (IntOp.andi (IntOp.andi (IntOp.andi (IntOp.cmpi .sge v 1#32) (IntOp.cmpi .sle v 2048#32))
        (IntOp.cmpi .ne t 0#32)) (IntOp.cmpi .ne t 1#32))
      (IntOp.remsi .vector (v - 1#32) 4#32 + 1#32) 0#32 = posWord v.toNat t := by
  rw [inside_word h, rem_word h]
  simp only [IntOp.cmpi, andi_bool, Scalar.select, posWord, bool_one]
  simp only [Bool.and_eq_true, decide_eq_true_eq, bne_iff_ne, ne_eq, and_assoc]
  split
  next hc =>
    rw [if_neg (show ¬ v.toNat = 0 by have := hc.1; omega)]
    apply BitVec.eq_of_toNat_eq
    rw [BitVec.toNat_add]; simp only [BitVec.toNat_ofNat]; omega
  next => rfl

/-- The root word a lane computes from its column word `v` and its source token `s`. -/
theorem root_lane {v : BitVec 32} (h : v.toNat < 2050) (s : BitVec 32) :
    Scalar.select (IntOp.andi (IntOp.andi (IntOp.andi (IntOp.cmpi .sge v 1#32) (IntOp.cmpi .sle v 2048#32))
        (IntOp.cmpi .ne (IntOp.remsi .vector (v - 1#32) 4#32) 0#32)) (IntOp.cmpi .ne s 1#32))
      s 0#32 = rootWord v.toNat s := by
  rw [inside_word h, rem_word h]
  simp only [IntOp.cmpi, andi_bool, Scalar.select, rootWord, bool_one]
  simp only [Bool.and_eq_true, decide_eq_true_eq, bne_iff_ne, ne_eq, and_assoc]
  have key : 1 ≤ v.toNat → ((if v.toNat = 0 then BitVec.allOnes 32 else BitVec.ofNat 32 ((v.toNat - 1) % 4)) = 0#32 ↔ (v.toNat - 1) % 4 = 0) := by
    intro h1
    rw [if_neg (by omega)]
    constructor
    · intro e
      have := congrArg BitVec.toNat e
      simp only [BitVec.toNat_ofNat] at this
      omega
    · intro e; rw [e]
  refine if_congr ?_ rfl rfl
  constructor
  · rintro ⟨h1, h2, h3, h4⟩; exact ⟨h1, h2, fun e => h3 ((key h1).mpr e), h4⟩
  · rintro ⟨h1, h2, h3, h4⟩; exact ⟨h1, h2, fun e => h3 ((key h1).mp e), h4⟩

/-! ## A scatter of the right words -/

/-- A scatter over a rank-one vector of lanes, all set, none added, each lane's word what `G` holds at the element it
    names: every element some lane names then holds `G`'s word, and every other is as before. -/
theorem storeIdx_right {F : FTy → Type} [FloatOps F] {s : Shape} {e : EltTy} {d : Fin 1 → ℕ} (f G : Vec F s e)
    (idxs : Fin s.rank → IVec ⟨1, d⟩ 32) (v : Vec F ⟨1, d⟩ e) (h : ∀ a x, (idxs a x).toNat < s.size a)
    (hv : ∀ x, v x = G (idxAt idxs h x)) (j : s.Idx) :
    storeIdx f idxs v (fun _ => 1#1) false h j = if ∃ k : Fin (d 0), idxAt idxs h (Shape.ofLane k) = j then G j else f j := by
  unfold storeIdx
  have key : ∀ (l : List (Fin (d 0))) (g : Vec F s e),
      (l.foldl (fun g k =>
        let x := Shape.ofLane k
        if (1#1 : BitVec 1) = 1 then
          let i := idxAt idxs h x
          let y := if false = true then Elt.idxAdd e (g i) (v x) else v x
          fun j => if (∀ a, (j a).val = (i a).val) then y else g j
        else g) g) j = if ∃ k ∈ l, idxAt idxs h (Shape.ofLane k) = j then G j else g j := by
    intro l
    induction l with
    | nil => intro g; simp
    | cons k l ih =>
      intro g
      rw [List.foldl_cons, ih]
      by_cases hl : ∃ k' ∈ l, idxAt idxs h (Shape.ofLane k') = j
      · have hl' : ∃ k' ∈ k :: l, idxAt idxs h (Shape.ofLane k') = j := by
          obtain ⟨k', hk', e⟩ := hl
          exact ⟨k', List.mem_cons_of_mem _ hk', e⟩
        rw [if_pos hl, if_pos hl']
      · rw [if_neg hl]
        by_cases hk : idxAt idxs h (Shape.ofLane k) = j
        · rw [if_pos (show ∃ k' ∈ k :: l, idxAt idxs h (Shape.ofLane k') = j from ⟨k, List.mem_cons_self, hk⟩)]
          subst hk
          exact (if_pos fun _ => rfl).trans (hv _)
        · suffices hn : ¬ ∃ k' ∈ k :: l, idxAt idxs h (Shape.ofLane k') = j by
            rw [if_neg hn]
            exact if_neg fun ha => hk (funext fun a => Fin.ext (ha a).symm)
          rintro ⟨k', hk', e⟩
          rcases List.mem_cons.mp hk' with h' | h'
          · exact hk (h' ▸ e)
          · exact hl ⟨k', h', e⟩
  refine (key (List.finRange (d 0)) f).trans ?_
  simp only [List.mem_finRange, true_and]

end Cert.Proof.Value

end
-- ==== Proof.RefValue.lean ====
/-
  The reference's two results, read at one element: they are the position array and the root array of its argument
  (`Value.posOf`, `Value.rootOf`). The reference builds the positions from a row of counts 0, 1, 2, 3, 4, 1, …, 4, 0
  shared by all token rows, and the roots by gathering column `4 b + 1` for each block `b` of four columns, repeating
  it over the block, putting a zero column at each end and scattering zeros back at the columns `4 b + 1`.
-/
module

public import proofs.«01_k».proof.Proof.Gen.ReferenceIdeal.Run
public import proofs.«01_k».proof.Proof.Value
public import Idealize.ShloMosaic.Lib.ReduceAll
public import Idealize.ShloMosaic.Lib.ValueIdx
public import Idealize.ShloMosaic.Lib.Pipeline.Value
public import Idealize.ShloMosaic.Lib.ScatterToDense.RefFold

@[expose] public section

noncomputable section

namespace Cert.Proof.Ref

open Cert.ReferenceIdeal Cert.ReferenceIdeal.Gen Idealize.ShloMosaic Idealize.ShloMosaic.ValueIdx Cert.Proof.Value

/-! ## Reading a scatter of one word -/

/-- Steps that each set the accumulator to `z` or leave it: it is `z` at the end if one step set it. -/
theorem foldl_set {α β : Type} (z : α) (hit : β → Prop) [DecidablePred hit] :
    ∀ (L : List β) (a : α), L.foldl (fun r n => if hit n then z else r) a = if ∃ n ∈ L, hit n then z else a
  | [], a => by simp
  | n :: L, a => by
    rw [List.foldl_cons, foldl_set z hit L]
    by_cases h : ∃ k ∈ L, hit k
    · obtain ⟨k, hk, hk'⟩ := h
      rw [if_pos ⟨k, hk, hk'⟩, if_pos ⟨k, List.mem_cons_of_mem _ hk, hk'⟩]
    · by_cases hn : hit n
      · rw [if_neg h, if_pos hn, if_pos ⟨n, List.mem_cons_self, hn⟩]
      · rw [if_neg h, if_neg hn, if_neg]
        rintro ⟨k, hk, hk'⟩
        rcases List.mem_cons.mp hk with rfl | hk
        · exact hn hk'
        · exact h ⟨k, hk, hk'⟩

/-- A scatter that writes one value `z` everywhere leaves `z` where some update lands and the operand elsewhere. -/
theorem scatter_const {α : Type} {w : ℕ} {s si u : Shape} (d : ScatterDims s si u) (x : s.Idx → α) (idx : IVec si w)
    (z : α) (i : s.Idx) [Decidable (∃ j : u.Idx, d.resultIdx? j idx = some i)] :
    Host.scatter d (fun _ b => b) x idx (fun _ => z) i = if ∃ j : u.Idx, d.resultIdx? j idx = some i then z else x i := by
  classical
  unfold Host.scatter
  rw [ScatterToDense.foldl_pointwise _ (fun a n => if d.resultIdx? (u.rowMajor.symm n) idx = some i then z else a) i, foldl_set]
  · congr 1
    refine propext ⟨fun ⟨n, _, h⟩ => ⟨_, h⟩, fun ⟨j, h⟩ => ⟨u.rowMajor j, List.mem_finRange _, ?_⟩⟩
    rw [Equiv.symm_apply_apply]; exact h
  · intro r n
    cases d.resultIdx? (u.rowMajor.symm n) idx with
    | none => simp
    | some k =>
      by_cases h : i = k
      · subst h; simp
      · simp [h, Ne.symm h]

/-! ## The first columns of the blocks -/

/-- The column words `4 b + 1`, -/
def colWords : IVec S512 32 :=
  addi (addi (broadcastInDim S512 ![] bcast_S_S512 (constantI S_ 32 0#32))
    (muli (broadcastInDim S512 ![] bcast_S_S512 (constantI S_ 32 4#32)) (iotaInDim S512 32 0)))
    (broadcastInDim S512 ![] bcast_S_S512 (constantI S_ 32 1#32))

/-- and the start indices made of them: a negative word would count from the right end. -/
def starts : IVec S512x1 32 :=
  broadcastInDim S512x1 ![0] bcast_S512_S512x1_0
    (select (cmpi .slt colWords (broadcastInDim S512 ![] bcast_S_S512 (constantI S_ 32 0#32)))
      (addi colWords (broadcastInDim S512 ![] bcast_S_S512 (constantI S_ 32 2050#32))) colWords)

theorem colWords_apply (i : S512.Idx) : colWords i = BitVec.ofNat 32 (4 * (i 0).val + 1) := by
  show 0#32 + 4#32 * BitVec.ofNat 32 (i 0).val + 1#32 = _
  apply BitVec.eq_of_toNat_eq
  simp only [BitVec.toNat_add, BitVec.toNat_mul, BitVec.toNat_ofNat]
  omega

theorem col_toInt {b : ℕ} (h : b < 512) : (BitVec.ofNat 32 (4 * b + 1)).toInt = 4 * b + 1 := by
  rw [BitVec.toInt_eq_toNat_of_lt (by rw [BitVec.toNat_ofNat]; omega), BitVec.toNat_ofNat, Nat.mod_eq_of_lt (by omega)]
  omega

theorem starts_apply (i : S512x1.Idx) : starts i = BitVec.ofNat 32 (4 * (i 0).val + 1) := by
  have hi : (i 0).val < 512 := (i 0).isLt
  unfold starts
  rw [broadcastInDim_apply _ _ _ i (ix1 ⟨(i 0).val, hi⟩) (fun a => by
    obtain rfl : a = 0 := Subsingleton.elim _ _
    rfl)]
  show Scalar.select (IntOp.cmpi .slt (colWords _) 0#32) _ (colWords _) = _
  rw [colWords_apply]
  show Scalar.select (IntOp.cmpi .slt (BitVec.ofNat 32 (4 * (i 0).val + 1)) 0#32) _ (BitVec.ofNat 32 (4 * (i 0).val + 1)) = _
  have : IntOp.cmpi .slt (BitVec.ofNat 32 (4 * (i 0).val + 1)) 0#32 = 0#1 := by
    simp only [IntOp.cmpi, BitVec.slt_eq_decide, col_toInt hi, show (0#32).toInt = 0 by decide]
    rw [decide_eq_false (by omega)]; rfl
  rw [this]; rfl

/-! ## The block tokens -/

/-- The gather of one column per block: the row's token at the start index. -/
theorem gather_apply {α : Type} (x : S4096x2050.Idx → α) (idx : IVec S512x1 32) (i : S4096x512.Idx) :
    Host.gather gather_S4096x2050_S512x1_S4096x512_0_1_n_n_1_1_40961 x idx i
      = x (ix2 ⟨(i 0).val, (i 0).isLt⟩
          ⟨min (idx (ix2 ⟨(i 1).val, (i 1).isLt⟩ (0 : Fin 1))).toInt.toNat 2049, by omega⟩) := by
  unfold Host.gather
  refine congrArg x (funext fun a => Fin.ext ?_)
  match a with
  | 0 =>
    simp only [GatherDims.operandIdx, GatherDims.start, GatherDims.batchCoord]
    rw [dif_neg (by decide), dif_neg (by decide)]
    show 0 + 0 + GatherDims.offCoord _ i 0 = _
    rw [Nat.zero_add]
    rfl
  | 1 =>
    have hsi : GatherDims.siIdx gather_S4096x2050_S512x1_S4096x512_0_1_n_n_1_1_40961 i ⟨0, by decide⟩
        = ix2 ⟨(i 1).val, (i 1).isLt⟩ (0 : Fin 1) := by
      funext b; refine Fin.ext ?_
      match b with
      | 0 => rfl
      | 1 => rfl
    simp only [GatherDims.operandIdx, GatherDims.start, GatherDims.batchCoord, GatherDims.offCoord]
    rw [dif_pos (by decide), dif_neg (by decide), dif_neg (by decide)]
    show min (idx (GatherDims.siIdx _ i ⟨0, _⟩)).toInt.toNat 2049 + 0 + 0 = _
    rw [hsi]; rfl

/-- The token at the first column of each block, guarded against start indices outside the row. -/
def blockToks (x : IVec S4096x2050 32) : IVec S4096x512 32 :=
  select (broadcastInDim S4096x512 ![1] bcast_S512_S4096x512_1
      (Host.reduce IntOp.andi
        (andi (cmpi .sge starts (broadcastInDim S512x1 ![] bcast_S_S512x1 (constantI S_ 32 0#32)))
          (cmpi .sle starts (broadcastInDim S512x1 ![0, 1] bcast_S1x1_S512x1_0_1
            (broadcastInDim S1x1 ![1] bcast_S1_S1x1_1 (constantI S1 32 2049#32)))))
        (constantI S_ 1 1#1) reducesTo_S512x1_S512_d1 h_S_))
    (Host.gather gather_S4096x2050_S512x1_S4096x512_0_1_n_n_1_1_40961 x starts)
    (broadcastInDim S4096x512 ![] bcast_S_S4096x512 (constantI S_ 32 2147483648#32))

theorem blockToks_apply (x : IVec S4096x2050 32) (i : S4096x512.Idx) (k : S4096x2050.Idx)
    (h0 : (k 0).val = (i 0).val) (h1 : (k 1).val = 4 * (i 1).val + 1) : blockToks x i = x k := by
  have hi : (i 1).val < 512 := (i 1).isLt
  unfold blockToks
  rw [show ∀ (c : IVec S4096x512 1) (a b : IVec S4096x512 32), c i = 1#1 → select c a b i = a i from
    fun c a b h => by show Scalar.select (c i) _ _ = _; rw [h]; rfl, gather_apply]
  · refine congrArg x (idx_ext (n := 4096) h0.symm ?_)
    show min (starts _).toInt.toNat 2049 = (k 1).val
    rw [starts_apply, h1]
    show min (BitVec.ofNat 32 (4 * (i 1).val + 1)).toInt.toNat 2049 = _
    rw [col_toInt hi]; omega
  · rw [broadcastInDim_apply _ _ _ i (ix1 ⟨(i 1).val, hi⟩) (fun a => by
      obtain rfl : a = 0 := Subsingleton.elim _ _
      rfl)]
    refine Host.reduce_andi_one _ _ _ _ _ rfl fun b => ?_
    have hb : (b 0).val < 512 := (b 0).isLt
    show IntOp.andi (IntOp.cmpi .sge (starts b) 0#32) (IntOp.cmpi .sle (starts b) 2049#32) = 1#1
    rw [starts_apply]
    simp only [IntOp.cmpi, andi_bool, BitVec.sle_eq_decide, col_toInt hb, show (0#32).toInt = 0 by decide,
      show (2049#32).toInt = 2049 by decide]
    rw [decide_eq_true (by omega), decide_eq_true (by omega)]; rfl

/-! ## The root tokens -/

/-- The block tokens repeated over their blocks, between two zero columns. -/
def spread (x : IVec S4096x2050 32) : IVec S4096x2050 32 :=
  concatenate S4096x2050 1
    [⟨S4096x1, broadcastInDim S4096x1 ![] bcast_S_S4096x1 (constantI S_ 32 0#32)⟩,
     ⟨S4096x2048, shapeCast _ (broadcastInDim S4096x512x4 ![0, 1] bcast_S4096x512_S4096x512x4_0_1 (blockToks x))
        shapeCasts_S4096x512x4_S4096x2048⟩,
     ⟨S4096x1, broadcastInDim S4096x1 ![] bcast_S_S4096x1 (constantI S_ 32 0#32)⟩]
    concatenates_S4096x1_S4096x2048_S4096x1_S4096x2050_d1

theorem spread_apply (x : IVec S4096x2050 32) (i : S4096x2050.Idx) :
    spread x i = if 1 ≤ (i 1).val ∧ (i 1).val ≤ 2048 then x (srcIdx (n := 4096) i) else 0#32 := by
  have h0 : (i 0).val < 4096 := (i 0).isLt
  have h1 : (i 1).val < 2050 := (i 1).isLt
  unfold spread
  split
  next hc =>
    refine (concatenate_apply_piece 1 _ _ i 1 (by simp) S4096x2048 _ rfl rfl 1 rfl
      (ix2 ⟨(i 0).val, h0⟩ ⟨(i 1).val - 1, by omega⟩) (fun b hb => ?_) ?_).trans ?_
    · match b with
      | 0 => rfl
      | 1 => exact absurd rfl hb
    · show 1 + ((i 1).val - 1) = (i 1).val
      omega
    refine (shapeCast_apply _ _ _ (ix3 (n0 := 4096) (n1 := 512) (n2 := 4) ⟨(i 0).val, h0⟩ ⟨((i 1).val - 1) / 4, by omega⟩
      ⟨((i 1).val - 1) % 4, by omega⟩) ?_).trans ?_
    · rw [Shape.rowMajor_val_three, Shape.rowMajor_val_two]
      show ((i 0).val * 512 + ((i 1).val - 1) / 4) * 4 + ((i 1).val - 1) % 4 = (i 0).val * 2048 + ((i 1).val - 1)
      omega
    refine (broadcastInDim_apply _ _ _ _ (ix2 (n0 := 4096) (n1 := 512) ⟨(i 0).val, h0⟩ ⟨((i 1).val - 1) / 4, by omega⟩)
      (fun a => ?_)).trans ?_
    · match a with
      | 0 => rfl
      | 1 => rfl
    refine blockToks_apply x _ _ rfl ?_
    show srcCol (i 1).val = 4 * (((i 1).val - 1) / 4) + 1
    unfold srcCol
    rw [if_neg (by omega)]; omega
  next hc =>
    by_cases hz : (i 1).val = 0
    · refine (concatenate_apply_piece 1 _ _ i 0 (by simp) S4096x1 _ rfl rfl 0 rfl
        (ix2 ⟨(i 0).val, h0⟩ (0 : Fin 1)) (fun b hb => ?_) ?_).trans rfl
      · match b with
        | 0 => rfl
        | 1 => exact absurd rfl hb
      · show 0 + 0 = (i 1).val
        omega
    · refine (concatenate_apply_piece 1 _ _ i 2 (by simp) S4096x1 _ rfl rfl 2049 rfl
        (ix2 ⟨(i 0).val, h0⟩ (0 : Fin 1)) (fun b hb => ?_) ?_).trans rfl
      · match b with
        | 0 => rfl
        | 1 => exact absurd rfl hb
      · show 2049 + 0 = (i 1).val
        omega

/-- Update `(r, b)` of the scatter lands in row `r` at column `4 b + 1`. -/
theorem lands (j : S4096x512.Idx) (i : S4096x2050.Idx) :
    scatter_S4096x2050_S512x1_S4096x512_0_1_1_1.resultIdx? j starts = some i
      ↔ (i 0).val = (j 0).val ∧ (i 1).val = 4 * (j 1).val + 1 := by
  have hj0 : (j 0).val < 4096 := (j 0).isLt
  have hj1 : (j 1).val < 512 := (j 1).isLt
  have hsi : ScatterDims.siIdx scatter_S4096x2050_S512x1_S4096x512_0_1_1_1 j ⟨0, by decide⟩
      = ix2 ⟨(j 1).val, (j 1).isLt⟩ (0 : Fin 1) := by
    funext b; refine Fin.ext ?_
    match b with
    | 0 => rfl
    | 1 => rfl
  have e0 : scatter_S4096x2050_S512x1_S4096x512_0_1_1_1.start j starts 0
      + scatter_S4096x2050_S512x1_S4096x512_0_1_1_1.window j 0 = ((j 0).val : ℤ) := by
    simp only [ScatterDims.start]
    rw [dif_neg (by decide), zero_add]
    rfl
  have e1 : scatter_S4096x2050_S512x1_S4096x512_0_1_1_1.start j starts 1
      + scatter_S4096x2050_S512x1_S4096x512_0_1_1_1.window j 1 = ((4 * (j 1).val + 1 : ℕ) : ℤ) := by
    simp only [ScatterDims.start, ScatterDims.window]
    rw [dif_pos (by decide), dif_neg (by decide)]
    show (starts (ScatterDims.siIdx _ j ⟨0, _⟩)).toInt + 0 = _
    rw [hsi]
    refine (congrArg (fun v : BitVec 32 => v.toInt + 0) (starts_apply _)).trans ?_
    show (BitVec.ofNat 32 (4 * (j 1).val + 1)).toInt + 0 = _
    rw [col_toInt hj1]; push_cast; omega
  have hin : ∀ a, 0 ≤ scatter_S4096x2050_S512x1_S4096x512_0_1_1_1.start j starts a
        + scatter_S4096x2050_S512x1_S4096x512_0_1_1_1.window j a
      ∧ scatter_S4096x2050_S512x1_S4096x512_0_1_1_1.start j starts a
        + scatter_S4096x2050_S512x1_S4096x512_0_1_1_1.window j a < S4096x2050.size a := fun a => by
    match a with
    | 0 => rw [e0]; show 0 ≤ ((j 0).val : ℤ) ∧ ((j 0).val : ℤ) < ((4096 : ℕ) : ℤ); omega
    | 1 => rw [e1]; show 0 ≤ ((4 * (j 1).val + 1 : ℕ) : ℤ) ∧ ((4 * (j 1).val + 1 : ℕ) : ℤ) < ((2050 : ℕ) : ℤ); omega
  have v0 : (scatter_S4096x2050_S512x1_S4096x512_0_1_1_1.start j starts 0
      + scatter_S4096x2050_S512x1_S4096x512_0_1_1_1.window j 0).toNat = (j 0).val := by rw [e0]; rfl
  have v1 : (scatter_S4096x2050_S512x1_S4096x512_0_1_1_1.start j starts 1
      + scatter_S4096x2050_S512x1_S4096x512_0_1_1_1.window j 1).toNat = 4 * (j 1).val + 1 := by rw [e1]; rfl
  unfold ScatterDims.resultIdx?
  rw [dif_pos hin, Option.some_inj]
  constructor
  · rintro rfl
    exact ⟨v0, v1⟩
  · rintro ⟨h0, h1⟩
    exact idx_ext (n := 4096) (v0.trans h0.symm) (v1.trans h1.symm)

/-- The repeated block tokens with zeros at the first columns of the blocks, read at one element. -/
theorem scattered_apply (x : IVec S4096x2050 32) (i : S4096x2050.Idx) :
    Host.scatter scatter_S4096x2050_S512x1_S4096x512_0_1_1_1 (fun _ b => b) (spread x) starts
        (broadcastInDim S4096x512 ![] bcast_S_S4096x512 (constantI S_ 32 0#32)) i
      = if 1 ≤ (i 1).val ∧ (i 1).val ≤ 2048 ∧ ((i 1).val - 1) % 4 ≠ 0 then x (srcIdx (n := 4096) i) else 0#32 := by
  classical
  have h0 : (i 0).val < 4096 := (i 0).isLt
  have h1 : (i 1).val < 2050 := (i 1).isLt
  refine (scatter_const _ _ _ (0#32) i).trans ?_
  rw [spread_apply]
  by_cases h : ∃ j, scatter_S4096x2050_S512x1_S4096x512_0_1_1_1.resultIdx? j starts = some i
  · rw [if_pos h]
    obtain ⟨j, hj⟩ := h
    have := (lands j i).mp hj
    rw [if_neg (by omega)]
  · rw [if_neg h]
    by_cases hc : 1 ≤ (i 1).val ∧ (i 1).val ≤ 2048
    · rw [if_pos hc, if_pos]
      refine ⟨hc.1, hc.2, fun hm => h ⟨ix2 (n0 := 4096) (n1 := 512) ⟨(i 0).val, h0⟩ ⟨((i 1).val - 1) / 4, by omega⟩,
        (lands _ i).mpr ⟨rfl, ?_⟩⟩⟩
      show (i 1).val = 4 * (((i 1).val - 1) / 4) + 1
      omega
    · rw [if_neg hc, if_neg fun hn => hc ⟨hn.1, hn.2.1⟩]

variable {F : FTy → Type} [FloatOps F]

/-- The reference's second result is the root array of its argument. -/
theorem root_eq (m : (ℓ : Loc nD τ sig) → Buf (Elt F) ℓ) (c : Dev nD) :
    Cert.ReferenceIdeal.Value.res_out1 m c
      = rootOf (n := 4096) (m ((c.tc : Thread nD τ).loc main_arg0)) := by
  funext i
  show Scalar.select (IntOp.cmpi .eq (Host.scatter scatter_S4096x2050_S512x1_S4096x512_0_1_1_1 (fun _ b => b)
      (spread (m ((c.tc : Thread nD τ).loc main_arg0))) starts
      (broadcastInDim S4096x512 ![] bcast_S_S4096x512 (constantI S_ 32 0#32)) i) 1#32) 0#32
    (Host.scatter scatter_S4096x2050_S512x1_S4096x512_0_1_1_1 (fun _ b => b)
      (spread (m ((c.tc : Thread nD τ).loc main_arg0))) starts
      (broadcastInDim S4096x512 ![] bcast_S_S4096x512 (constantI S_ 32 0#32)) i) = _
  rw [scattered_apply]
  show _ = rootWord (i 1).val (m ((c.tc : Thread nD τ).loc main_arg0) (srcIdx (n := 4096) i))
  generalize m ((c.tc : Thread nD τ).loc main_arg0) (srcIdx (n := 4096) i) = s
  unfold rootWord
  simp only [IntOp.cmpi, Scalar.select, bool_one]
  by_cases hc : 1 ≤ (i 1).val ∧ (i 1).val ≤ 2048 ∧ ((i 1).val - 1) % 4 ≠ 0
  · rw [if_pos hc]
    by_cases hs : s = 1#32
    · rw [if_pos (by simpa using hs), if_neg fun h => h.2.2.2 hs]
    · rw [if_neg (by simpa using hs), if_pos ⟨hc.1, hc.2.1, hc.2.2, hs⟩]
  · rw [if_neg hc, if_neg (by decide), if_neg fun h => hc ⟨h.1, h.2.1, h.2.2.1⟩]

/-! ## The positions -/

/-- The counts 0, 1, 2, 3, 4, 1, …, 4, 0 of the columns, -/
def counts : IVec S2050 32 :=
  concatenate S2050 0
    [⟨S1, broadcastInDim S1 ![] bcast_S_S1 (constantI S_ 32 0#32)⟩,
     ⟨S2048, shapeCast _ (broadcastInDim S512x4 ![0, 1] bcast_S1x4_S512x4_0_1
        (shapeCast _ (addi (iotaInDim S4 32 0) (broadcastInDim S4 ![] bcast_S_S4 (constantI S_ 32 1#32))) shapeCasts_S4_S1x4))
        shapeCasts_S512x4_S2048⟩,
     ⟨S1, broadcastInDim S1 ![] bcast_S_S1 (constantI S_ 32 0#32)⟩]
    concatenates_S1_S2048_S1_S2050_d0

/-- and every row holding them. -/
def countRows : IVec S4096x2050 32 :=
  shapeCast _ (broadcastInDim S4096x1x1x2050 ![0, 1, 2, 3] bcast_S1x1x1x2050_S4096x1x1x2050_0_1_2_3
    (shapeCast _ (broadcastInDim S1x2050 ![1] bcast_S2050_S1x2050_1 counts) shapeCasts_S1x2050_S1x1x1x2050))
    shapeCasts_S4096x1x1x2050_S4096x2050

theorem counts_apply (i : S2050.Idx) :
    counts i = if 1 ≤ (i 0).val ∧ (i 0).val ≤ 2048 then BitVec.ofNat 32 (((i 0).val - 1) % 4 + 1) else 0#32 := by
  have h1 : (i 0).val < 2050 := (i 0).isLt
  unfold counts
  split
  next hc =>
    refine (concatenate_apply_piece 0 _ _ i 1 (by simp) S2048 _ rfl rfl 1 rfl
      (ix1 ⟨(i 0).val - 1, by omega⟩) (fun b hb => absurd (Subsingleton.elim _ _) hb) ?_).trans ?_
    · show 1 + ((i 0).val - 1) = (i 0).val
      omega
    refine (shapeCast_apply _ _ _ (ix2 (n0 := 512) (n1 := 4) ⟨((i 0).val - 1) / 4, by omega⟩
      ⟨((i 0).val - 1) % 4, by omega⟩) ?_).trans ?_
    · rw [Shape.rowMajor_val_two, Shape.rowMajor_val_one]
      show ((i 0).val - 1) / 4 * 4 + ((i 0).val - 1) % 4 = (i 0).val - 1
      omega
    refine (broadcastInDim_apply _ _ _ _ (ix2 (n0 := 1) (n1 := 4) 0 ⟨((i 0).val - 1) % 4, by omega⟩) (fun a => ?_)).trans ?_
    · match a with
      | 0 => rfl
      | 1 => rfl
    refine (shapeCast_apply _ _ _ (ix1 (n := 4) ⟨((i 0).val - 1) % 4, by omega⟩) ?_).trans ?_
    · rw [Shape.rowMajor_val_two, Shape.rowMajor_val_one]
      show ((i 0).val - 1) % 4 = 0 * 4 + ((i 0).val - 1) % 4
      omega
    show BitVec.ofNat 32 (((i 0).val - 1) % 4) + 1#32 = _
    exact (BitVec.ofNat_add _ _).symm
  next hc =>
    by_cases hz : (i 0).val = 0
    · refine (concatenate_apply_piece 0 _ _ i 0 (by simp) S1 _ rfl rfl 0 rfl
        (ix1 (0 : Fin 1)) (fun b hb => absurd (Subsingleton.elim _ _) hb) ?_).trans rfl
      show 0 + 0 = (i 0).val
      omega
    · refine (concatenate_apply_piece 0 _ _ i 2 (by simp) S1 _ rfl rfl 2049 rfl
        (ix1 (0 : Fin 1)) (fun b hb => absurd (Subsingleton.elim _ _) hb) ?_).trans rfl
      show 2049 + 0 = (i 0).val
      omega

theorem countRows_apply (i : S4096x2050.Idx) :
    countRows i = if 1 ≤ (i 1).val ∧ (i 1).val ≤ 2048 then BitVec.ofNat 32 (((i 1).val - 1) % 4 + 1) else 0#32 := by
  have h0 : (i 0).val < 4096 := (i 0).isLt
  have h1 : (i 1).val < 2050 := (i 1).isLt
  unfold countRows
  refine (shapeCast_apply _ _ _ (ix4 (n0 := 4096) (n1 := 1) (n2 := 1) (n3 := 2050) ⟨(i 0).val, h0⟩ 0 0 ⟨(i 1).val, h1⟩)
    ?_).trans ?_
  · rw [Shape.rowMajor_val_four, Shape.rowMajor_val_two]
    show (((i 0).val * 1 + 0) * 1 + 0) * 2050 + (i 1).val = (i 0).val * 2050 + (i 1).val
    omega
  refine (broadcastInDim_apply _ _ _ _ (ix4 (n0 := 1) (n1 := 1) (n2 := 1) (n3 := 2050) 0 0 0 ⟨(i 1).val, h1⟩)
    (fun a => ?_)).trans ?_
  · match a with
    | 0 => rfl
    | 1 => rfl
    | 2 => rfl
    | 3 => rfl
  refine (shapeCast_apply _ _ _ (ix2 (n0 := 1) (n1 := 2050) 0 ⟨(i 1).val, h1⟩) ?_).trans ?_
  · rw [Shape.rowMajor_val_four, Shape.rowMajor_val_two]
    show 0 * 2050 + (i 1).val = ((0 * 1 + 0) * 1 + 0) * 2050 + (i 1).val
    omega
  refine (broadcastInDim_apply _ _ _ _ (ix1 (n := 2050) ⟨(i 1).val, h1⟩) (fun a => ?_)).trans ?_
  · obtain rfl : a = 0 := Subsingleton.elim _ _
    rfl
  exact counts_apply _

/-- The reference's first result is the position array of its argument. -/
theorem pos_eq (x : IVec S4096x2050 32) :
    select (ori (cmpi .eq x (broadcastInDim S4096x2050 ![] bcast_S_S4096x2050 (constantI S_ 32 0#32)))
        (cmpi .eq x (broadcastInDim S4096x2050 ![] bcast_S_S4096x2050 (constantI S_ 32 1#32))))
      (broadcastInDim S4096x2050 ![] bcast_S_S4096x2050 (constantI S_ 32 0#32)) countRows
      = posOf (n := 4096) x := by
  funext i
  show Scalar.select (IntOp.ori (IntOp.cmpi .eq (x i) 0#32) (IntOp.cmpi .eq (x i) 1#32)) 0#32 (countRows i)
    = posWord (i 1).val (x i)
  rw [countRows_apply]
  generalize x i = t
  have ho : ∀ p q : Bool, IntOp.ori (BitVec.ofBool p) (BitVec.ofBool q) = BitVec.ofBool (p || q) := by decide
  unfold posWord
  simp only [IntOp.cmpi, ho, Scalar.select, bool_one]
  by_cases ht : t = 0#32 ∨ t = 1#32
  · rw [if_pos (by simpa using ht), if_neg fun h => ht.elim h.2.2.1 h.2.2.2]
  · rw [if_neg (by simpa using ht)]
    rw [not_or] at ht
    by_cases hc : 1 ≤ (i 1).val ∧ (i 1).val ≤ 2048
    · rw [if_pos hc, if_pos ⟨hc.1, hc.2, ht.1, ht.2⟩]
    · rw [if_neg hc, if_neg fun h => hc ⟨h.1, h.2.1⟩]

end Cert.Proof.Ref

end
-- ==== Proof.KernelIdeal.Lanes.lean ====
/-
  What the sixteen lanes of one step compute: a step names, lane by lane, an element of the chunk's scratch (a row word and a
  column word), reads the token there and the token at the column's source, and stores the position word and the root word at
  the element it named. Both stores hold, at each element named, what the chunk's positions and root tokens are there
  (Proof/Value.lean `posOf`, `rootOf`).

  Two kinds of step: trip `k` of row `r` names columns `16 k … 16 k + 15` of row `r`; the one last step names columns 2048 and
  2049 of all eight rows, two lanes a row.
-/
module

public import proofs.«01_k».proof.Proof.Value
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen
open Cert.Proof.Value
open Idealize.ShloMosaic

variable {F : FTy → Type} [FloatOps F]

/-! ## The words a step names its elements by -/

/-- The lane numbers. -/
abbrev lanes : IVec S16 32 := iota .scVector S16 32 [0] iota_S16_d0_w32_scVector

theorem lane_lt (x : S16.Idx) : (x 0).val < 16 := (x 0).isLt

theorem lanes_apply (x : S16.Idx) : lanes x = BitVec.ofNat 32 (x 0).val := by
  show BitVec.ofNat 32 (0 * 16 + (x 0).val) = _
  rw [Nat.zero_mul, Nat.zero_add]

/-- Trip `k`'s column words: `16 k` plus the lane. -/
theorem col_word (k : Fin k0_t3_loop.trips) (x : S16.Idx) : (k0_pay3 lanes k x).toNat = 16 * k.val + (x 0).val := by
  have hk : k.val < 128 := Nat.lt_of_lt_of_le k.isLt k0_t3_abs.2.1
  have hx := lane_lt x
  show ((0#32 + BitVec.ofNat 32 k.val * 1#32) * 16#32 + lanes x).toNat = _
  rw [lanes_apply]
  simp only [BitVec.toNat_add, BitVec.toNat_mul, BitVec.toNat_ofNat]
  omega

/-- A row's row words: the row's number in every lane. -/
abbrev rowVec (r : Fin k0_t2_loop.trips) : IVec S16 32 := broadcast S16 (Scf.iv 0#32 1#32 r.val)
theorem row_word (r : Fin k0_t2_loop.trips) (x : S16.Idx) : (rowVec r x).toNat = r.val := by
  have hr : r.val < 8 := Nat.lt_of_lt_of_le r.isLt k0_t2_abs.2.1
  show (0#32 + BitVec.ofNat 32 r.val * 1#32).toNat = _
  simp only [BitVec.toNat_add, BitVec.toNat_mul, BitVec.toNat_ofNat]
  omega

/-- The last step's row words, half the lane, -/
theorem tail_row_word (x : S16.Idx) : (k0_pay8 lanes x).toNat = (x 0).val / 2 := by
  have key : ∀ l : Fin 16, (IntOp.shrsi .vector (BitVec.ofNat 32 l.val) 1#32).toNat = l.val / 2 := by decide
  show (IntOp.shrsi .vector (lanes x) 1#32).toNat = _
  rw [lanes_apply]; exact key (x 0)
/-- and its column words, 2048 plus the lane's parity. -/
theorem tail_col_word (x : S16.Idx) : (k0_pay9 lanes x).toNat = 2048 + (x 0).val % 2 := by
  have key : ∀ l : Fin 16, (2048#32 + (BitVec.ofNat 32 l.val &&& 1#32)).toNat = 2048 + l.val % 2 := by decide
  show (2048#32 + (lanes x &&& 1#32)).toNat = _
  rw [lanes_apply]; exact key (x 0)

/-! ## A step, for any row and column words in range -/

section Step

variable {r c : IVec S16 32} (hr : ∀ x, (r x).toNat < 8) (hc : ∀ x, (c x).toNat < 2050)
include hr hc

theorem inb : ∀ a x, ((![r, c] : Fin 2 → IVec S16 32) a x).toNat < S8x2050.size a := by
  intro a x
  match a with
  | 0 => exact hr x
  | 1 => exact hc x

theorem src_inb : ∀ a x, ((![r, subi c (k0_pay4 c)] : Fin 2 → IVec S16 32) a x).toNat < S8x2050.size a := by
  intro a x
  match a with
  | 0 => exact hr x
  | 1 =>
    show (c x - IntOp.remsi .vector (c x - 1#32) 4#32).toNat < 2050
    rw [src_word (hc x)]; exact srcCol_lt (hc x)

omit hr in
/-- The element a lane reads its source token at is the source of the element it names. -/
theorem src_at (h : ∀ a x, ((![r, c] : Fin 2 → IVec S16 32) a x).toNat < S8x2050.size a)
    (h' : ∀ a x, ((![r, subi c (k0_pay4 c)] : Fin 2 → IVec S16 32) a x).toNat < S8x2050.size a) (x : S16.Idx) :
    idxAt (s := S8x2050) ![r, subi c (k0_pay4 c)] h' x = srcIdx (idxAt (s := S8x2050) ![r, c] h x) := by
  refine idx_ext rfl ?_
  show (c x - IntOp.remsi .vector (c x - 1#32) 4#32).toNat = srcCol (c x).toNat
  exact src_word (hc x)

omit hr in
/-- A trip's position words, -/
theorem pos_words (X : Vec F S8x2050 .i32) (h : ∀ a x, ((![r, c] : Fin 2 → IVec S16 32) a x).toNat < S8x2050.size a) (x : S16.Idx) :
    k0_pay6 (F := F) c (loadIdx X ![r, c] h) x = posOf (n := 8) X (idxAt (s := S8x2050) ![r, c] h x) :=
  pos_lane (hc x) (X (idxAt (s := S8x2050) ![r, c] h x))
omit hr in
/-- and its root words. -/
theorem root_words (X : Vec F S8x2050 .i32) (h : ∀ a x, ((![r, c] : Fin 2 → IVec S16 32) a x).toNat < S8x2050.size a)
    (h' : ∀ a x, ((![r, subi c (k0_pay4 c)] : Fin 2 → IVec S16 32) a x).toNat < S8x2050.size a) (x : S16.Idx) :
    k0_pay7 (F := F) c (loadIdx X ![r, subi c (k0_pay4 c)] h') x = rootOf (n := 8) X (idxAt (s := S8x2050) ![r, c] h x) := by
  refine (root_lane (hc x) (X (idxAt (s := S8x2050) ![r, subi c (k0_pay4 c)] h' x))).trans ?_
  rw [src_at hc h h']; rfl

omit hr in
/-- The last step's position words, -/
theorem tail_pos_words (X : Vec F S8x2050 .i32) (h : ∀ a x, ((![r, c] : Fin 2 → IVec S16 32) a x).toNat < S8x2050.size a) (x : S16.Idx) :
    k0_pay1 (k0_pay10 c) (k0_pay12 (F := F) c (loadIdx X ![r, c] h)) k0_pay13 x = posOf (n := 8) X (idxAt (s := S8x2050) ![r, c] h x) :=
  pos_lane (hc x) (X (idxAt (s := S8x2050) ![r, c] h x))
omit hr in
/-- and its root words. -/
theorem tail_root_words (X : Vec F S8x2050 .i32) (h : ∀ a x, ((![r, c] : Fin 2 → IVec S16 32) a x).toNat < S8x2050.size a)
    (h' : ∀ a x, ((![r, subi c (k0_pay10 c)] : Fin 2 → IVec S16 32) a x).toNat < S8x2050.size a) (x : S16.Idx) :
    k0_pay2 (F := F) (k0_pay10 c) (loadIdx X ![r, subi c (k0_pay10 c)] h') (k0_pay11 c) x = rootOf (n := 8) X (idxAt (s := S8x2050) ![r, c] h x) := by
  refine (root_lane (hc x) (X (idxAt (s := S8x2050) ![r, subi c (k0_pay10 c)] h' x))).trans ?_
  exact congrArg (fun j => rootWord (c x).toNat (X j)) (src_at hc h h' x)

end Step

theorem rowVec_lt (r : Fin k0_t2_loop.trips) (x : S16.Idx) : (rowVec r x).toNat < 8 := by
  rw [row_word]; exact Nat.lt_of_lt_of_le r.isLt k0_t2_abs.2.1
theorem col_lt' (k : Fin k0_t3_loop.trips) (x : S16.Idx) : (k0_pay3 lanes k x).toNat < 2050 := by
  have hk : k.val < 128 := Nat.lt_of_lt_of_le k.isLt k0_t3_abs.2.1
  have hx := lane_lt x
  rw [col_word]; omega
theorem tail_row_lt (x : S16.Idx) : (k0_pay8 lanes x).toNat < 8 := by
  have hx := lane_lt x
  rw [tail_row_word]; omega
theorem tail_col_lt (x : S16.Idx) : (k0_pay9 lanes x).toNat < 2050 := by rw [tail_col_word]; omega

/-! ## The elements done -/

/-- The elements of the scratch done when row `r` has had `k` trips: every column below 2048 of the rows before it, and its
    own first `16 k` columns. -/
def Done (r k : ℕ) (j : S8x2050.Idx) : Prop := (j 1).val < 2048 ∧ ((j 0).val < r ∨ ((j 0).val = r ∧ (j 1).val < 16 * k))

/-- `f` holds `G`'s words on the elements done. -/
def Right (r k : ℕ) (f G : S8x2050.Idx → BitVec 32) : Prop := ∀ j, Done r k j → f j = G j

theorem right_start (f G : S8x2050.Idx → BitVec 32) : Right 0 0 f G := by
  rintro j ⟨-, h | ⟨-, h⟩⟩ <;> omega

/-- A row's 128 trips make it done. -/
theorem right_row {r : ℕ} {f G : S8x2050.Idx → BitVec 32} (h : Right r 128 f G) : Right (r + 1) 0 f G := by
  rintro j ⟨h1, h2⟩
  exact h j ⟨h1, by omega⟩

/-- Lane `l` as an index of a step's vectors. -/
abbrev lane (l : Fin 16) : S16.Idx := Shape.ofLane (d := ![16]) l
theorem lane_val (l : Fin 16) : (lane l 0).val = l.val := rfl

/-- A trip's store makes its sixteen elements done. -/
theorem right_trip (r : Fin k0_t2_loop.trips) (k : Fin k0_t3_loop.trips) {f G : Vec F S8x2050 .i32} {v : Vec F S16 .i32}
    (h : ∀ a x, ((![rowVec r, k0_pay3 lanes k] : Fin 2 → IVec S16 32) a x).toNat < S8x2050.size a)
    (hv : ∀ x, v x = G (idxAt (s := S8x2050) ![rowVec r, k0_pay3 lanes k] h x)) (hf : Right r.val k.val f G) :
    Right r.val (k.val + 1) (storeIdx (F := F) (e := .i32) f ![rowVec r, k0_pay3 lanes k] v (fun _ => 1#1) false h) G := by
  rintro j ⟨h1, h2⟩
  rw [storeIdx_right f G _ v h hv j]
  split
  · rfl
  next hn =>
    refine hf j ⟨h1, ?_⟩
    rcases h2 with h2 | ⟨h2, h3⟩
    · exact .inl h2
    refine .inr ⟨h2, Nat.lt_of_not_le fun h4 => hn ?_⟩
    obtain ⟨l, hl⟩ : ∃ l : Fin 16, l.val = (j 1).val - 16 * k.val := ⟨⟨(j 1).val - 16 * k.val, by omega⟩, rfl⟩
    have e0 := row_word r (lane l)
    have e1 := col_word k (lane l)
    rw [lane_val, hl] at e1
    exact ⟨l, idx_ext (e0.trans h2.symm) (e1.trans (by omega))⟩

/-- The last step's store makes every element done. -/
theorem right_tail {f G : Vec F S8x2050 .i32} {v : Vec F S16 .i32}
    (h : ∀ a x, ((![k0_pay8 lanes, k0_pay9 lanes] : Fin 2 → IVec S16 32) a x).toNat < S8x2050.size a)
    (hv : ∀ x, v x = G (idxAt (s := S8x2050) ![k0_pay8 lanes, k0_pay9 lanes] h x)) (hf : Right 8 0 f G) :
    storeIdx (F := F) (e := .i32) f ![k0_pay8 lanes, k0_pay9 lanes] v (fun _ => 1#1) false h = G := by
  funext j
  have h0 : (j 0).val < 8 := (j 0).isLt
  have h1 : (j 1).val < 2050 := (j 1).isLt
  rw [storeIdx_right f G _ v h hv j]
  split
  · rfl
  next hn =>
    refine hf j ⟨Nat.lt_of_not_le fun h4 => hn ?_, .inl h0⟩
    have key : ∀ a b : ℕ, a < 8 → 2048 ≤ b → b < 2050 →
        ∃ l : Fin 16, l.val / 2 = a ∧ 2048 + l.val % 2 = b := fun a b _ _ _ =>
      ⟨⟨2 * a + (b - 2048), by omega⟩, by show (2 * a + (b - 2048)) / 2 = a; omega, by show 2048 + (2 * a + (b - 2048)) % 2 = b; omega⟩
    obtain ⟨l, l0, l1⟩ := key _ _ h0 h4 h1
    exact ⟨l, idx_ext ((tail_row_word (lane l)).trans l0) ((tail_col_word (lane l)).trans l1)⟩

end Cert.Proof.OfKernelIdeal

end
-- ==== Proof.KernelIdeal.Tile.lean ====
module

public import proofs.«01_k».proof.Defs
public import proofs.«01_k».proof.Proof.KernelIdeal.Lanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

/-!
# The steps of a chunk

A subcore's chunk is eight rows of tokens in its first scratch.  Each step gathers sixteen of them, and the root tokens of their
blocks, and scatters the words it computes over the other two scratches.  `trip` is one step, `rowTrip` the 128 steps of a row;
`chunk` says which elements are right in between.  `wp_copy` is a copy followed by the wait for it, as the kernel makes all its
copies.
-/

@[expose] public section

noncomputable section

namespace Cert.Proof.OfKernelIdeal

open Cert.KernelIdeal Cert.KernelIdeal.Gen
open Cert.Proof.Value

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as the body names them -/

abbrev xA : Memref sig .scVector .hbm S4096x2050 .i32 := Memref.whole main_arg0_scv
abbrev pA : Memref sig .scVector .hbm S4096x2050 .i32 := Memref.whole main_v0_0_scv
abbrev rA : Memref sig .scVector .hbm S4096x2050 .i32 := Memref.whole main_v0_1_scv
abbrev xS : Memref sig .scVector .vmem S8x2050 .i32 := Memref.whole cc0_scratch0
abbrev pS : Memref sig .scVector .vmem S8x2050 .i32 := Memref.whole cc0_scratch1
abbrev rS : Memref sig .scVector .vmem S8x2050 .i32 := Memref.whole cc0_scratch2

variable [FloatOps F] (d : Dev nD) (L : grid0.Coords)

/-- The vector subcore at grid point `L`. -/
abbrev thr : Thread nD τ := V d ((L 0).castLE hcore0) ((L 1).castLE hsub0)

/-! ## A scatter and a gather over the scratch -/

section Scratch

variable {α : Type} {v : Vec F S16 .i32} {idxs : Fin S8x2050.rank → IVec S16 32} {h : ∀ a x, (idxs a x).toNat < S8x2050.size a}

/-- The gather of the tokens a step names. -/
theorem wp_load_x {hl : (xS).view.Loads} {k : Vec F S16 .i32 → Prog (TpuEff nD τ sig (Elt F) Λ₀ (thr d L).2) α} {Q : α → sProp 𝕄} (X : Vec F S8x2050 .i32) :
    ((thr d L).loc cc0_scratch0 ↦{fullShare} X : sProp 𝕄)
      ⊢ iprop((((thr d L).loc cc0_scratch0 ↦{fullShare} X) -∗ wp frame (wpE (defs₀ (F := F)) 𝒱₀ (thr d L) none) Set.univ (k (loadIdx X idxs h)) Q)
        -∗ wp frame (wpE (defs₀ (F := F)) 𝒱₀ (thr d L) none) Set.univ (SparseCore.vectorLoadIdx xS idxs h hl >>= k) Q) := by
  have e : ((xS).access (Rect.whole S8x2050)).read (Elt F) X = X := Memref.read_access_whole _ _ _
  have w := SparseCore.wp_vectorLoadIdx (defs := defs₀ (F := F)) (base := xS) (idxs := idxs) (h := h) (hl := hl) (k := k) (Q := Q)
    𝒱₀ (thr d L) none Set.univ (S := Finset.univ) (q := fullShare) (f := X) (Finset.subset_univ _)
  rwa [e] at w

/-- The scatter of a step's position words, -/
theorem wp_store_p {mask : IVec S16 1} {add : Bool} {hs : ((pS).access (Rect.whole S8x2050)).Stores Finset.univ}
    {k : PUnit → Prog (TpuEff nD τ sig (Elt F) Λ₀ (thr d L).2) α} {Q : α → sProp 𝕄} (f : Vec F S8x2050 .i32) :
    ((thr d L).loc cc0_scratch1 ↦{fullShare} f : sProp 𝕄)
      ⊢ iprop((((thr d L).loc cc0_scratch1 ↦{fullShare} storeIdx (F := F) (e := .i32) f idxs v mask add h)
            -∗ wp frame (wpE (defs₀ (F := F)) 𝒱₀ (thr d L) none) Set.univ (k ⟨⟩) Q)
        -∗ wp frame (wpE (defs₀ (F := F)) 𝒱₀ (thr d L) none) Set.univ (SparseCore.vectorStoreIdx pS idxs v mask add h hs >>= k) Q) := by
  have e : ((pS).access (Rect.whole S8x2050)).read (Elt F) f = f := Memref.read_access_whole _ _ _
  have e1 : ((pS).access (Rect.whole S8x2050)).set = Finset.univ := Memref.set_access_whole _
  have e2 : ∀ g : Vec F S8x2050 .i32, ((pS).access (Rect.whole S8x2050)).write (Elt F) f g Finset.univ = g :=
    fun g => Memref.write_access_whole_univ (Elt F) cc0_scratch1 f g
  have w := SparseCore.wp_vectorStoreIdx (defs := defs₀ (F := F)) (base := pS) (idxs := idxs) (v := v) (mask := mask) (add := add) (h := h) (hs := hs) (k := k) (Q := Q)
    𝒱₀ (thr d L) none Set.univ (f := f)
  rwa [e, e1, e2] at w

/-- and of its root words. -/
theorem wp_store_r {mask : IVec S16 1} {add : Bool} {hs : ((rS).access (Rect.whole S8x2050)).Stores Finset.univ}
    {k : PUnit → Prog (TpuEff nD τ sig (Elt F) Λ₀ (thr d L).2) α} {Q : α → sProp 𝕄} (f : Vec F S8x2050 .i32) :
    ((thr d L).loc cc0_scratch2 ↦{fullShare} f : sProp 𝕄)
      ⊢ iprop((((thr d L).loc cc0_scratch2 ↦{fullShare} storeIdx (F := F) (e := .i32) f idxs v mask add h)
            -∗ wp frame (wpE (defs₀ (F := F)) 𝒱₀ (thr d L) none) Set.univ (k ⟨⟩) Q)
        -∗ wp frame (wpE (defs₀ (F := F)) 𝒱₀ (thr d L) none) Set.univ (SparseCore.vectorStoreIdx rS idxs v mask add h hs >>= k) Q) := by
  have e : ((rS).access (Rect.whole S8x2050)).read (Elt F) f = f := Memref.read_access_whole _ _ _
  have e1 : ((rS).access (Rect.whole S8x2050)).set = Finset.univ := Memref.set_access_whole _
  have e2 : ∀ g : Vec F S8x2050 .i32, ((rS).access (Rect.whole S8x2050)).write (Elt F) f g Finset.univ = g :=
    fun g => Memref.write_access_whole_univ (Elt F) cc0_scratch2 f g
  have w := SparseCore.wp_vectorStoreIdx (defs := defs₀ (F := F)) (base := rS) (idxs := idxs) (v := v) (mask := mask) (add := add) (h := h) (hs := hs) (k := k) (Q := Q)
    𝒱₀ (thr d L) none Set.univ (f := f)
  rwa [e, e1, e2] at w

end Scratch

/-! ## A chunk's elements -/

/-- The chunk's scratch: the tokens `X`; the results right on the elements done. -/
def chunk (X : Vec F S8x2050 .i32) (r k : ℕ) : sProp 𝕄 :=
  iprop(((thr d L).loc cc0_scratch0 ↦{fullShare} X)
    ∗ (∃ f : Vec F S8x2050 .i32, ⌜Right r k f (posOf (n := 8) X)⌝ ∗ (thr d L).loc cc0_scratch1 ↦{fullShare} f)
    ∗ (∃ f : Vec F S8x2050 .i32, ⌜Right r k f (rootOf (n := 8) X)⌝ ∗ (thr d L).loc cc0_scratch2 ↦{fullShare} f))

/-- One trip of a row: its sixteen elements. -/
theorem trip (X : Vec F S8x2050 .i32) (v1 c0 c1 : BitVec 32) (t : Fin k0_t1_loop.trips) (r : Fin k0_t2_loop.trips)
    (k : Fin k0_t3_loop.trips) (acc : BitVec 32) :
    chunk d L X r.val k.val ⊢ wp frame (wpE (defs₀ (F := F)) 𝒱₀ (thr d L) none) Set.univ
      (k0_t3_body L xA (Memref.isWhole_whole _) pA (Memref.isWhole_whole _) rA (Memref.isWhole_whole _)
        xS (Memref.isWhole_whole _) pS (Memref.isWhole_whole _) rS (Memref.isWhole_whole _) cc0_scoped0 cc0_scoped1 cc0_scoped2
        v1 lanes c0 c1 t (rowVec r) k acc)
      fun _ => chunk d L X r.val (k.val + 1) := by
  have h1 := inb (rowVec_lt r) (col_lt' k)
  have h2 := src_inb (rowVec_lt r) (col_lt' k)
  unfold chunk k0_t3_body
  iintro ⟨Hx, ⟨%fp, %hp, Hp⟩, ⟨%fr, %hr, Hr⟩⟩
  iapply (wp_assume (defs := defs₀ (F := F)) 𝒱₀ (thr d L) none Set.univ (show k0_chk1 (rowVec r) (k0_pay3 lanes k) from ⟨h1, h1, h1⟩))
  iapply (wp_load_x d L (hl := View.loads_vmem h_S8x2050) X) $$ [Hx]
  · iexact Hx
  iintro Hx
  iapply (wp_assume (defs := defs₀ (F := F)) 𝒱₀ (thr d L) none Set.univ (show k0_chk2 (rowVec r) (subi (k0_pay3 lanes k) (k0_pay4 (k0_pay3 lanes k))) from h2))
  iapply (wp_load_x d L (hl := View.loads_vmem h_S8x2050) X) $$ [Hx]
  · iexact Hx
  iintro Hx
  iapply (wp_store_p d L (hs := View.stores_vmem_bits_univ h_S8x2050 rfl) fp) $$ [Hp]
  · iexact Hp
  iintro Hp
  iapply (wp_store_r d L (hs := View.stores_vmem_bits_univ h_S8x2050 rfl) fr) $$ [Hr]
  · iexact Hr
  iintro Hr
  have ep := right_trip (F := F) r k h1 (pos_words (col_lt' k) X h1) hp
  have er := right_trip (F := F) r k h1 (root_words (col_lt' k) X h1 h2) hr
  rw [wp_pure]; imodintro
  isplitl [Hx]; · iexact Hx
  isplitl [Hp]
  · iexists _; isplitr
    · ipureintro; exact ep
    · iexact Hp
  · iexists _; isplitr
    · ipureintro; exact er
    · iexact Hr

/-- The region of the row loop: row `r`'s 128 trips. -/
theorem rowTrip (X : Vec F S8x2050 .i32) (v1 c0 c1 : BitVec 32) (t : Fin k0_t1_loop.trips) (r : Fin k0_t2_loop.trips) (acc : BitVec 32) :
    chunk d L X r.val 0 ⊢ wp frame (wpE (defs₀ (F := F)) 𝒱₀ (thr d L) none) Set.univ
      (k0_t2_body L xA (Memref.isWhole_whole _) pA (Memref.isWhole_whole _) rA (Memref.isWhole_whole _)
        xS (Memref.isWhole_whole _) pS (Memref.isWhole_whole _) rS (Memref.isWhole_whole _) cc0_scoped0 cc0_scoped1 cc0_scoped2
        v1 lanes c0 c1 t r acc)
      fun _ => chunk d L X (r.val + 1) 0 := by
  unfold k0_t2_body
  iintro H
  iapply (Scf.wp_for_bind frame (wpE (defs₀ (F := F)) 𝒱₀ (thr d L) none) Set.univ k0_t3_loop.lb k0_t3_loop.ub k0_t3_loop.st k0_t3_ok 0#32 _
    (fun k _ => chunk d L X r.val k) (fun k acc => trip d L X v1 c0 c1 t r k acc)) $$ [H]
  · iexact H
  iintro %acc' H
  rw [wp_pure]; imodintro
  unfold chunk
  icases H with ⟨Hx, ⟨%fp, %hp, Hp⟩, ⟨%fr, %hr, Hr⟩⟩
  isplitl [Hx]; · iexact Hx
  isplitl [Hp]
  · iexists fp; isplitr
    · ipureintro; exact right_row hp
    · iexact Hp
  · iexists fr; isplitr
    · ipureintro; exact right_row hr
    · iexact Hr

/-! ## A copy and its wait -/

section Copy

variable {s : Shape} {e : EltTy} {sp sp' sp₂ : Space} {s₂ : Shape} {e₂ : EltTy} {α : Type}

/-- A copy issued on a counter at zero and waited for at once: the target holds what the source reads, the counter is back at zero. -/
theorem wp_copy (src : Memref sig (thr d L).2.kind sp s e) (dst : Memref sig (thr d L).2.kind sp' s e) (sm : DmaSem sig)
    {srcw : Memref sig (thr d L).2.kind sp₂ s₂ e₂} {h1 : src.view.WordExact} {h2 : dst.view.WordExact}
    {h3 : DmaTarget.Typed (nD := nD) (τ := τ) (p := (thr d L).2) sp (.dma sm) (.here dst)} {h4 : srcw.view.WordExact} {h5 : dst.view.WordExact}
    (hpos : 0 < dst.view.dmaCredit) {Ss : Finset (Idx (src.view.loc (thr d L)))} (hSs : src.view.set = Ss) {Sd : Finset (Idx (dst.view.loc (thr d L)))} (hSd : dst.view.set ⊆ Sd)
    (fs : Buf (Elt F) (src.view.loc (thr d L))) {w : s.Idx → Elt F e} (hw : src.view.read (Elt F) fs = w) (fd : Buf (Elt F) (dst.view.loc (thr d L)))
    {O : CellTallies nD τ sig (HIx 1)} {W : Waits sig (HIx 1)}
    {k : PUnit → Prog (TpuEff nD τ sig (Elt F) Λ₀ (thr d L).2) α} {Q : α → sProp 𝕄} :
    iprop((src.view.loc (thr d L) ↦[Ss]{fullShare} fs) ∗ (dst.view.loc (thr d L) ↦[Sd]{fullShare} fd)
        ∗ semVal (thr d L, .dma sm) 0 ∗ Transfers.MayWaits (thr d L) (default : HIx 1) O ∗ owes (thr d L) O W)
      ⊢ iprop((((src.view.loc (thr d L) ↦[Ss]{fullShare} fs)
            ∗ (dst.view.loc (thr d L) ↦[Sd]{fullShare} (dst.view.write (Elt F) fd w Finset.univ))
            ∗ semVal (thr d L, .dma sm) 0 ∗ owes (thr d L) O (insert (SemLoc.dma sm, (default : HIx 1)) W))
          -∗ wp frame (wpE (defs₀ (F := F)) 𝒱₀ (thr d L) none) Set.univ (k ⟨⟩) Q)
        -∗ wp frame (wpE (defs₀ (F := F)) 𝒱₀ (thr d L) none) Set.univ
            (Prog.lift (.enqueueDma src (.here dst) (.dma sm) h1 h2 h3) >>= fun _ => Prog.lift (.waitDma2 sm srcw dst h4 h5) >>= k) Q) := by
  subst hSs hw
  iintro ⟨Hs, Hd, Hv, #Hmw, HO⟩ Hk
  iapply (Transfers.wp_dmaLocal countersEmb 𝒱₀ (thr d L) none (src := src) (via := .same) (dst := dst) (sm := .dma sm)
    (fs := fs) (fd := fd) (default : HIx 1) dst.view.dmaCredit rfl hpos hSd) $$ [Hs Hd Hv]
  · isplitl [Hs]; · iexact Hs
    isplitl [Hd] <;> iassumption
  iintro Hf
  iapply (Transfers.wp_waitLocalO countersEmb 𝒱₀ (thr d L) none (dstw := dst) (default : HIx 1) rfl) $$ [Hf HO]
  · isplitl [Hf]; · iexact Hf
    isplitl [HO]; · iexact HO
    iapply (Transfers.MayWaits.elim (SemLoc.dma sm)) $$ Hmw
  iintro ⟨⟨Hd, Hs⟩, Hv, HO⟩
  iapply Hk
  isplitl [Hs]; · iexact Hs
  isplitl [Hd]; · iexact Hd
  isplitl [Hv] <;> iassumption

end Copy

end Cert.Proof.OfKernelIdeal

end
-- ==== Proof.KernelIdeal.Body.lean ====
module

public import proofs.«01_k».proof.Proof.KernelIdeal.Tile

/-!
# The task of one vector subcore

Vector subcore `j` of SparseCore `c` works on 128 rows of the tokens, those from row `256 j + 128 c`, in sixteen chunks of eight
rows.  A chunk is copied into the first scratch, its positions and root tokens are written into the other two scratches, and these
are copied out to the same rows of the two results.  The invariant of the loop over the chunks says the results are right on the
rows of the chunks done (`Upto`).
-/

@[expose] public section

noncomputable section

namespace Cert.Proof.OfKernelIdeal

open Cert.KernelIdeal Cert.KernelIdeal.Gen
open Cert.Proof.Value

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows of a subcore, and of one of its chunks -/

section Rows

variable (L : grid0.Coords)

/-- The subcore's first row, -/
abbrev base : ℕ := 256 * (L 1).val + 128 * (L 0).val

/-- and the elements of its rows. -/
def rows (c j : ℕ) : Finset S4096x2050.Idx := Finset.univ.filter fun i => (i 0).val / 128 = 2 * j + c
abbrev tile : Finset S4096x2050.Idx := rows (L 0).val (L 1).val

theorem mem_tile {i : S4096x2050.Idx} : i ∈ tile L ↔ base L ≤ (i 0).val ∧ (i 0).val < base L + 128 := by
  unfold tile rows base
  rw [Finset.mem_filter]
  constructor
  · rintro ⟨-, h⟩; omega
  · intro h; exact ⟨Finset.mem_univ _, by omega⟩

variable (t : Fin k0_t1_loop.trips)

/-- Chunk `t`'s rows of the tokens, -/
abbrev xC : Memref sig .scVector .hbm S8x2050 .i32 := xA.slice (Rect.unit (s := S4096x2050) (k0_off1 L t) S8x2050.size (k0_off1_inb L t)) (fun _ => rfl)
/-- of the positions, -/
abbrev pC : Memref sig .scVector .hbm S8x2050 .i32 := pA.slice (Rect.unit (s := S4096x2050) (k0_off2 L t) S8x2050.size (k0_off2_inb L t)) (fun _ => rfl)
/-- and of the root tokens. -/
abbrev rC : Memref sig .scVector .hbm S8x2050 .i32 := rA.slice (Rect.unit (s := S4096x2050) (k0_off2 L t) S8x2050.size (k0_off2_inb L t)) (fun _ => rfl)

theorem chunk_lt : t.val < 16 := Nat.lt_of_lt_of_le t.isLt k0_t1_abs.2.1

/-- An element of a block of eight whole rows from row `b`. -/
theorem mem_block {off : Fin 2 → ℕ} {inb : ∀ a, off a + S8x2050.size a ≤ S4096x2050.size a} {b : ℕ} (ho : off = ![b, 0]) {i : S4096x2050.Idx} :
    i ∈ (Rect.unit (s := S4096x2050) off S8x2050.size inb).set ↔ b ≤ (i 0).val ∧ (i 0).val < b + 8 := by
  subst ho
  rw [Rect.mem_set_unit]
  constructor
  · intro h; exact h 0
  · intro h a
    match a with
    | 0 => exact h
    | 1 => exact ⟨Nat.zero_le _, by have := (i 1).isLt; show (i 1).val < 0 + 2050; simpa using this⟩

theorem mem_xC {i : S4096x2050.Idx} : i ∈ (xC L t).view.set ↔ base L + 8 * t.val ≤ (i 0).val ∧ (i 0).val < base L + 8 * t.val + 8 := by
  rw [show (xC L t).view.set = _ from View.set_slice_whole _ _]; exact mem_block (k0_off1_eq L t)
theorem mem_pC {i : S4096x2050.Idx} : i ∈ (pC L t).view.set ↔ base L + 8 * t.val ≤ (i 0).val ∧ (i 0).val < base L + 8 * t.val + 8 := by
  rw [show (pC L t).view.set = _ from View.set_slice_whole _ _]; exact mem_block (k0_off2_eq L t)
theorem mem_rC {i : S4096x2050.Idx} : i ∈ (rC L t).view.set ↔ base L + 8 * t.val ≤ (i 0).val ∧ (i 0).val < base L + 8 * t.val + 8 := by
  rw [show (rC L t).view.set = _ from View.set_slice_whole _ _]; exact mem_block (k0_off2_eq L t)

theorem xC_sub : (xC L t).view.set ⊆ tile L := fun i h => by
  have := chunk_lt t
  rw [mem_tile]; rw [mem_xC] at h; omega
theorem pC_sub : (pC L t).view.set ⊆ tile L := fun i h => by
  have := chunk_lt t
  rw [mem_tile]; rw [mem_pC] at h; omega
theorem rC_sub : (rC L t).view.set ⊆ tile L := fun i h => by
  have := chunk_lt t
  rw [mem_tile]; rw [mem_rC] at h; omega

/-- Where element `i` of a block lies in the array. -/
theorem emb_row {off : Fin 2 → ℕ} {inb : ∀ a, off a + S8x2050.size a ≤ S4096x2050.size a} {b : ℕ} (ho : off = ![b, 0]) (i : S8x2050.Idx) :
    ((Rect.unit (s := S4096x2050) off S8x2050.size inb).emb i 0).val = b + (i 0).val ∧ ((Rect.unit (s := S4096x2050) off S8x2050.size inb).emb i 1).val = (i 1).val := by
  subst ho
  refine ⟨?_, ?_⟩ <;> rw [Rect.emb_apply]
  · show b + 1 * (i 0).val = _; omega
  · show 0 + 1 * (i 1).val = _; omega

/-- The tokens of chunk `t`. -/
def rowsOf (x : Vec F S4096x2050 .i32) : Vec F S8x2050 .i32 := (xC L t).view.read (Elt F) x

theorem pos_rowsOf (x : Vec F S4096x2050 .i32) (i : S8x2050.Idx) :
    posOf (n := 8) (rowsOf L t x) i = posOf (n := 4096) x ((pC L t).view.emb i) := by
  have e1 := fun i => emb_row (inb := k0_off1_inb L t) (k0_off1_eq L t) i
  have e2 := fun i => emb_row (inb := k0_off2_inb L t) (k0_off2_eq L t) i
  have h : (xC L t).view.emb i = (pC L t).view.emb i := idx_ext (n := 4096) ((e1 i).1.trans (e2 i).1.symm) ((e1 i).2.trans (e2 i).2.symm)
  rw [← h]
  exact posOf_block (n := 4096) (k := 8) x (fun i => (xC L t).view.emb i) (fun i => (e1 i).2) i

theorem root_rowsOf (x : Vec F S4096x2050 .i32) (i : S8x2050.Idx) :
    rootOf (n := 8) (rowsOf L t x) i = rootOf (n := 4096) x ((rC L t).view.emb i) := by
  have e1 := fun i => emb_row (inb := k0_off1_inb L t) (k0_off1_eq L t) i
  have e2 := fun i => emb_row (inb := k0_off2_inb L t) (k0_off2_eq L t) i
  have h : (xC L t).view.emb i = (rC L t).view.emb i := idx_ext (n := 4096) ((e1 i).1.trans (e2 i).1.symm) ((e1 i).2.trans (e2 i).2.symm)
  rw [← h]
  exact rootOf_block (n := 4096) (k := 8) x (fun i => (xC L t).view.emb i) _ (fun i => (e1 i).1) (fun i => (e1 i).2) i

/-- `f` holds `G`'s words on the subcore's first `n` rows. -/
def Upto (n : ℕ) (f G : S4096x2050.Idx → BitVec 32) : Prop := ∀ i ∈ tile L, (i 0).val < base L + n → f i = G i

theorem upto_start (f G : S4096x2050.Idx → BitVec 32) : Upto L 0 f G := fun i hi h => by
  rw [mem_tile] at hi; omega

theorem upto_end {n : ℕ} (hn : 128 ≤ n) {f G : S4096x2050.Idx → BitVec 32} (h : Upto L n f G) : ∀ i ∈ tile L, f i = G i := fun i hi =>
  h i hi (by rw [mem_tile] at hi; omega)

/-- The copy out of a chunk's positions makes its rows right, -/
theorem upto_p (x : Vec F S4096x2050 .i32) {f : Vec F S4096x2050 .i32} (h : Upto L (8 * t.val) f (posOf (n := 4096) x)) :
    Upto L (8 * (t.val + 1)) ((pC L t).view.write (Elt F) f (posOf (n := 8) (rowsOf L t x)) Finset.univ) (posOf (n := 4096) x) := by
  intro i hi hlt
  by_cases hm : i ∈ (pC L t).view.set
  · obtain ⟨k, -, rfl⟩ := Finset.mem_map.mp hm
    exact (View.write_emb_of_mem (v := (pC L t).view) f _ (Finset.mem_univ k)).trans (pos_rowsOf L t x k)
  · refine (View.write_of_not_mem (v := (pC L t).view) f _ Finset.univ hm).trans (h i hi ?_)
    rw [mem_pC] at hm; rw [mem_tile] at hi; omega
/-- and of its root tokens. -/
theorem upto_r (x : Vec F S4096x2050 .i32) {f : Vec F S4096x2050 .i32} (h : Upto L (8 * t.val) f (rootOf (n := 4096) x)) :
    Upto L (8 * (t.val + 1)) ((rC L t).view.write (Elt F) f (rootOf (n := 8) (rowsOf L t x)) Finset.univ) (rootOf (n := 4096) x) := by
  intro i hi hlt
  by_cases hm : i ∈ (rC L t).view.set
  · obtain ⟨k, -, rfl⟩ := Finset.mem_map.mp hm
    exact (View.write_emb_of_mem (v := (rC L t).view) f _ (Finset.mem_univ k)).trans (root_rowsOf L t x k)
  · refine (View.write_of_not_mem (v := (rC L t).view) f _ Finset.univ hm).trans (h i hi ?_)
    rw [mem_rC] at hm; rw [mem_tile] at hi; omega

end Rows

variable [FloatOps F] (d : Dev nD) (L : grid0.Coords)

/-! ## A chunk -/

/-- The three arrays, as locations of device `d`. -/
abbrev xLoc : Loc nD τ sig := (SparseCore.T d).loc main_arg0
abbrev pLoc : Loc nD τ sig := (SparseCore.T d).loc main_v0_0
abbrev rLoc : Loc nD τ sig := (SparseCore.T d).loc main_v0_1

/-- The subcore's rows of one of the arrays. -/
abbrev xPts (x : Vec F S4096x2050 .i32) : sProp 𝕄 := xLoc d ↦[tile L]{fullShare} x
abbrev pPts (f : Vec F S4096x2050 .i32) : sProp 𝕄 := pLoc d ↦[tile L]{fullShare} f
abbrev rPts (f : Vec F S4096x2050 .i32) : sProp 𝕄 := rLoc d ↦[tile L]{fullShare} f

/-- The scratch of a subcore, at any contents. -/
def scratch : sProp 𝕄 :=
  iprop((∃ f, (thr d L).loc cc0_scratch0 ↦{fullShare} f) ∗ (∃ f, (thr d L).loc cc0_scratch1 ↦{fullShare} f) ∗ (∃ f, (thr d L).loc cc0_scratch2 ↦{fullShare} f))

/-- What a chunk's first part leaves: the words the last step stores, and the check that it stores inside the scratch. -/
def tailWords (X : Vec F S8x2050 .i32)
    (res : Σ' (v11 : IVec S16 32) (v15 : IVec S16 32) (_ : k0_chk3 v11 v15) (_ : IVec S16 32) (_ : Vec F S16 .i32) (_ : IVec S16 1) (_ : IVec S16 1), IVec S16 32) : Prop :=
  ∃ hw h6, res = ⟨k0_pay8 lanes, k0_pay9 lanes, hw, k0_pay10 (k0_pay9 lanes),
    loadIdx X ![k0_pay8 lanes, subi (k0_pay9 lanes) (k0_pay10 (k0_pay9 lanes))] h6, k0_pay11 (k0_pay9 lanes),
    k0_pay12 (F := F) (k0_pay9 lanes) (loadIdx X ![k0_pay8 lanes, k0_pay9 lanes] (k0_idx5_inb _ _ hw)), k0_pay13⟩

/-- A chunk's first part: the copy in, the eight rows' columns below 2048, and the last step's two gathers. -/
theorem part1 (x : Vec F S4096x2050 .i32) (v1 c0 c1 : BitVec 32) (t : Fin k0_t1_loop.trips) {O : CellTallies nD τ sig (HIx 1)} {W : Waits sig (HIx 1)}
    {Q : _ → sProp 𝕄} :
    iprop(xPts d L x ∗ scratch d L ∗ semVal (thr d L, .dma cc0_scoped0.sem) 0 ∗ Transfers.MayWaits (thr d L) (default : HIx 1) O ∗ owes (thr d L) O W)
      ⊢ iprop((∀ res, (⌜tailWords (rowsOf L t x) res⌝ ∗ xPts d L x ∗ chunk d L (rowsOf L t x) 8 0 ∗ semVal (thr d L, .dma cc0_scoped0.sem) 0
            ∗ owes (thr d L) O (insert (SemLoc.dma cc0_scoped0.sem, (default : HIx 1)) W)) -∗ Q res)
        -∗ wp frame (wpE (defs₀ (F := F)) 𝒱₀ (thr d L) none) Set.univ
          (k0_part1 L xA (Memref.isWhole_whole _) pA (Memref.isWhole_whole _) rA (Memref.isWhole_whole _)
            xS (Memref.isWhole_whole _) pS (Memref.isWhole_whole _) rS (Memref.isWhole_whole _) cc0_scoped0 cc0_scoped1 cc0_scoped2
            v1 lanes c0 c1 t) Q) := by
  have h3 := inb tail_row_lt tail_col_lt
  have h4 := src_inb tail_row_lt tail_col_lt
  rw [k0_part1_eq_skeleton]
  unfold k0_part1_skel scratch
  iintro ⟨Hx, ⟨⟨%f0, Hs⟩, ⟨%f1, Hp⟩, ⟨%f2, Hr⟩⟩, Hv, #Hmw, HO⟩ HQ
  ihave Hx' := (pointsTo_split_subset (ℓ := xLoc d) (q := fullShare) (f := x) (xC_sub L t)).1 $$ Hx
  icases Hx' with ⟨Hc, Hrest⟩
  iapply (wp_copy d L (xC L t) xS cc0_scoped0.sem (View.dmaCredit_pos _ (show 0 < S8x2050.numel by decide)) rfl (Finset.subset_univ _) x
    (show _ = rowsOf L t x from rfl) f0) $$ [Hc Hs Hv HO]
  · isplitl [Hc]; · iexact Hc
    isplitl [Hs]; · iexact Hs
    isplitl [Hv]; · iexact Hv
    isplitr; · iexact Hmw
    iexact HO
  iintro ⟨Hc, Hs, Hv, HO⟩
  ihave Hx := (pointsTo_split_subset (ℓ := xLoc d) (q := fullShare) (f := x) (xC_sub L t)).2 $$ [Hc Hrest]
  · isplitl [Hc] <;> iassumption
  ihave Hs := (show ((xS).view.loc (thr d L) ↦{fullShare} ((xS).view.write (Elt F) f0 (rowsOf L t x) Finset.univ) : sProp 𝕄)
      ⊢ (thr d L).loc cc0_scratch0 ↦{fullShare} rowsOf L t x from
    Entails.of_eq (congrArg (fun g => ((thr d L).loc cc0_scratch0 ↦{fullShare} g : sProp 𝕄))
      (View.write_whole_univ (Val := Elt F) cc0_scratch0 f0 (rowsOf L t x)))) $$ Hs
  iapply (Scf.wp_for_bind frame (wpE (defs₀ (F := F)) 𝒱₀ (thr d L) none) Set.univ k0_t2_loop.lb k0_t2_loop.ub k0_t2_loop.st k0_t2_ok 0#32 _
    (fun r _ => chunk d L (rowsOf L t x) r 0) (fun r acc => rowTrip d L (rowsOf L t x) v1 c0 c1 t r acc)) $$ [Hs Hp Hr]
  · unfold chunk
    isplitl [Hs]; · iexact Hs
    isplitl [Hp]
    · iexists f1; isplitr
      · ipureintro; exact right_start _ _
      · iexact Hp
    · iexists f2; isplitr
      · ipureintro; exact right_start _ _
      · iexact Hr
  iintro %acc H
  unfold chunk
  icases H with ⟨Hs, Hp, Hr⟩
  iapply (wp_assume (defs := defs₀ (F := F)) 𝒱₀ (thr d L) none Set.univ (show k0_chk3 (k0_pay8 lanes) (k0_pay9 lanes) from ⟨h3, h3, h3⟩))
  iapply (wp_load_x d L (hl := View.loads_vmem h_S8x2050) (rowsOf L t x)) $$ [Hs]
  · iexact Hs
  iintro Hs
  iapply (wp_assume (defs := defs₀ (F := F)) 𝒱₀ (thr d L) none Set.univ (show k0_chk4 (k0_pay8 lanes) (subi (k0_pay9 lanes) (k0_pay10 (k0_pay9 lanes))) from h4))
  iapply (wp_load_x d L (hl := View.loads_vmem h_S8x2050) (rowsOf L t x)) $$ [Hs]
  · iexact Hs
  iintro Hs
  rw [wp_pure]; imodintro
  iapply HQ
  isplitr
  · ipureintro; exact ⟨_, _, rfl⟩
  isplitl [Hx]; · iexact Hx
  isplitl [Hs Hp Hr]
  · isplitl [Hs]; · iexact Hs
    isplitl [Hp]; · iexact Hp
    iexact Hr
  isplitl [Hv]; · iexact Hv
  iexact HO

/-- Before chunk `n`: the results right on the chunks done, the scratch at any contents, the counters at zero. -/
def inv (x : Vec F S4096x2050 .i32) (O : CellTallies nD τ sig (HIx 1)) (W : Waits sig (HIx 1)) (n : ℕ) : sProp 𝕄 :=
  iprop(xPts d L x ∗ (∃ f, ⌜Upto L (8 * n) f (posOf (n := 4096) x)⌝ ∗ pPts d L f) ∗ (∃ f, ⌜Upto L (8 * n) f (rootOf (n := 4096) x)⌝ ∗ rPts d L f)
    ∗ scratch d L ∗ semVal (thr d L, .dma cc0_scoped0.sem) 0 ∗ semVal (thr d L, .dma cc0_scoped1.sem) 0 ∗ semVal (thr d L, .dma cc0_scoped2.sem) 0
    ∗ Transfers.MayWaits (thr d L) (default : HIx 1) O ∗ ∃ W', ⌜∀ p ∈ W', p ∈ W ∨ p.2 = none⌝ ∗ owes (thr d L) O W')

/-- The region of the loop over the chunks. -/
theorem chunkTrip (x : Vec F S4096x2050 .i32) (O : CellTallies nD τ sig (HIx 1)) (W : Waits sig (HIx 1)) (v1 : BitVec 32)
    (t : Fin k0_t1_loop.trips) (acc : BitVec 32) :
    inv d L x O W t.val ⊢ wp frame (wpE (defs₀ (F := F)) 𝒱₀ (thr d L) none) Set.univ
      (k0_t1_body L xA (Memref.isWhole_whole _) pA (Memref.isWhole_whole _) rA (Memref.isWhole_whole _)
        xS (Memref.isWhole_whole _) pS (Memref.isWhole_whole _) rS (Memref.isWhole_whole _) cc0_scoped0 cc0_scoped1 cc0_scoped2
        v1 lanes t acc)
      fun _ => inv d L x O W (t.val + 1) := by
  have h3 := inb tail_row_lt tail_col_lt
  unfold inv k0_t1_body
  iintro ⟨Hx, ⟨%fp, %hp, Hp⟩, ⟨%fr, %hr, Hr⟩, Hscr, Hv0, Hv1, Hv2, #Hmw, %W', %hW, HO⟩
  rw [wp_bind]
  iapply (part1 d L x v1 0#32 1#32 t) $$ [Hx Hscr Hv0 HO]
  · isplitl [Hx]; · iexact Hx
    isplitl [Hscr]; · iexact Hscr
    isplitl [Hv0]; · iexact Hv0
    isplitr; · iexact Hmw
    iexact HO
  iintro %res ⟨%hres, Hx, Hch, Hv0, HO⟩
  obtain ⟨hw, h6, rfl⟩ := hres
  unfold chunk
  icases Hch with ⟨Hs, ⟨%f1, %hf1, Hs1⟩, ⟨%f2, %hf2, Hs2⟩⟩
  have ep := right_tail (F := F) h3 (tail_pos_words tail_col_lt (rowsOf L t x) h3) hf1
  have er := right_tail (F := F) h3 (tail_root_words tail_col_lt (rowsOf L t x) h3 h6) hf2
  iapply (wp_store_p d L (hs := View.stores_vmem_bits_univ h_S8x2050 rfl) f1) $$ [Hs1]
  · iexact Hs1
  iintro Hs1
  iapply (wp_store_r d L (hs := View.stores_vmem_bits_univ h_S8x2050 rfl) f2) $$ [Hs2]
  · iexact Hs2
  iintro Hs2
  ihave Hs1 := (Entails.of_eq (congrArg (fun g => ((thr d L).loc cc0_scratch1 ↦{fullShare} g : sProp 𝕄)) ep)) $$ Hs1
  ihave Hs2 := (Entails.of_eq (congrArg (fun g => ((thr d L).loc cc0_scratch2 ↦{fullShare} g : sProp 𝕄)) er)) $$ Hs2
  iapply (wp_copy d L pS (pC L t) cc0_scoped1.sem (View.dmaCredit_pos _ (show 0 < S8x2050.numel by decide)) (View.set_whole cc0_scratch1)
    (pC_sub L t) (posOf (n := 8) (rowsOf L t x)) (View.read_whole (Val := Elt F) cc0_scratch1 _) fp) $$ [Hs1 Hp Hv1 HO]
  · isplitl [Hs1]; · iexact Hs1
    isplitl [Hp]; · iexact Hp
    isplitl [Hv1]; · iexact Hv1
    isplitr; · iexact Hmw
    iexact HO
  iintro ⟨Hs1, Hp, Hv1, HO⟩
  iapply (wp_copy d L rS (rC L t) cc0_scoped2.sem (View.dmaCredit_pos _ (show 0 < S8x2050.numel by decide)) (View.set_whole cc0_scratch2)
    (rC_sub L t) (rootOf (n := 8) (rowsOf L t x)) (View.read_whole (Val := Elt F) cc0_scratch2 _) fr) $$ [Hs2 Hr Hv2 HO]
  · isplitl [Hs2]; · iexact Hs2
    isplitl [Hr]; · iexact Hr
    isplitl [Hv2]; · iexact Hv2
    isplitr; · iexact Hmw
    iexact HO
  iintro ⟨Hs2, Hr, Hv2, HO⟩
  rw [wp_pure]; imodintro
  isplitl [Hx]; · iexact Hx
  isplitl [Hp]
  · iexists _; isplitr
    · ipureintro; exact upto_p L t x hp
    · iexact Hp
  isplitl [Hr]
  · iexists _; isplitr
    · ipureintro; exact upto_r L t x hr
    · iexact Hr
  isplitl [Hs Hs1 Hs2]
  · unfold scratch
    isplitl [Hs]; · iexists _; iexact Hs
    isplitl [Hs1]; · iexists _; iexact Hs1
    iexists _; iexact Hs2
  isplitl [Hv0]; · iexact Hv0
  isplitl [Hv1]; · iexact Hv1
  isplitl [Hv2]; · iexact Hv2
  isplitr; · iexact Hmw
  iexists _; isplitr
  rotate_left
  · iexact HO
  · ipureintro
    intro p h
    rcases Finset.mem_insert.mp h with rfl | h
    · exact .inr rfl
    rcases Finset.mem_insert.mp h with rfl | h
    · exact .inr rfl
    rcases Finset.mem_insert.mp h with rfl | h
    · exact .inr rfl
    exact hW p h

/-- The kernel's body on one subcore: its rows of the results are right when it ends. -/
theorem run_body (x : Vec F S4096x2050 .i32) (O : CellTallies nD τ sig (HIx 1)) (W : Waits sig (HIx 1)) :
    inv d L x O W 0 ⊢ wp frame (wpE (defs₀ (F := F)) 𝒱₀ (thr d L) none) Set.univ
      (cc0_run L xA (Memref.isWhole_whole _) pA (Memref.isWhole_whole _) rA (Memref.isWhole_whole _)
        xS (Memref.isWhole_whole _) pS (Memref.isWhole_whole _) rS (Memref.isWhole_whole _) cc0_scoped0 cc0_scoped1 cc0_scoped2)
      fun _ => inv d L x O W 16 := by
  rw [cc0_run_eq_skeleton]
  unfold cc0_run_skel
  iintro H
  iapply (Scf.wp_for_bind frame (wpE (defs₀ (F := F)) 𝒱₀ (thr d L) none) Set.univ k0_t1_loop.lb k0_t1_loop.ub k0_t1_loop.st k0_t1_ok 0#32 _
    (fun n _ => inv d L x O W n) (fun t acc => chunkTrip d L x O W _ t acc)) $$ [H]
  · iexact H
  iintro %acc H
  rw [wp_pure]; imodintro
  iexact H

end Cert.Proof.OfKernelIdeal

end
-- ==== Proof.KernelIdeal.Run.lean ====
module

public import proofs.«01_k».proof.Proof.KernelIdeal.Body

/-!
# The whole launch

The tokens and the two results are cut into the thirty-two subcores' rows, handed to them, and put together again: each subcore's
share comes back with its rows of the results right, so the results whole are the positions and the root tokens.  The run ends with
every semaphore at zero and the argument unchanged.
-/

@[expose] public section

noncomputable section

namespace Cert.Proof.OfKernelIdeal

open Cert.KernelIdeal Cert.KernelIdeal.Gen
open Cert.Proof.Value

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the handshakes carry -/

/-- Subcore `j` of SparseCore `c`'s rows of the three arrays. -/
abbrev share (d : Dev nD) (c j : ℕ) (x p r : Vec F S4096x2050 .i32) : sProp 𝕄 :=
  iprop((xLoc d ↦[rows c j]{fullShare} x) ∗ (pLoc d ↦[rows c j]{fullShare} p) ∗ (rLoc d ↦[rows c j]{fullShare} r))

variable (m : (ℓ : Loc nD τ sig) → Buf (Elt F) ℓ) (ρ : Dev nD → PrngReg)

/-- The tokens, and the results as they must be. -/
abbrev tok (d : Dev nD) : Vec F S4096x2050 .i32 := m (xLoc d)
abbrev pos (d : Dev nD) : Vec F S4096x2050 .i32 := posOf (n := 4096) (tok m d)
abbrev root (d : Dev nD) : Vec F S4096x2050 .i32 := rootOf (n := 4096) (tok m d)

/-- The shares at the launch, and at the end. -/
abbrev before (d : Dev nD) (c j : ℕ) : sProp 𝕄 := share d c j (tok m d) (m (pLoc d)) (m (rLoc d))
abbrev after (d : Dev nD) (c j : ℕ) : sProp 𝕄 := share d c j (tok m d) (pos m d) (root m d)

/-- The call takes every subcore's share and brings it back with the results in it. -/
def P : (K (F := F)).Pay (nD := nD) (Val := Elt F) (Name := ℕ) (U := UU) where
  st := fun q d c => match q with | 0 => bigSep Finset.univ fun i : Fin 16 => before m d c.val i.val
  dn := fun q d c => match q with | 0 => bigSep Finset.univ fun i : Fin 16 => after m d c.val i.val
  go := fun q d c i => match q with | 0 => before m d c.val i.val
  td := fun q d c i => match q with | 0 => after m d c.val i.val
  x := fun _ _ => iprop(emp)

instance P_storable : (P (F := F) m).IsStorable where
  st q d c := match q with
    | 0 => (inferInstance : BI.Storable (upEmb : UEmb _ 𝕄) (bigSep Finset.univ fun i : Fin 16 => before m d c.val i.val))
  dn q d c := match q with
    | 0 => (inferInstance : BI.Storable (upEmb : UEmb _ 𝕄) (bigSep Finset.univ fun i : Fin 16 => after m d c.val i.val))
  go q d c i := match q with | 0 => (inferInstance : BI.Storable (upEmb : UEmb _ 𝕄) (before m d c.val i.val))
  td q d c i := match q with | 0 => (inferInstance : BI.Storable (upEmb : UEmb _ 𝕄) (after m d c.val i.val))

/-! ## A subcore's task, from what it holds at its start -/

section Task

variable (d : Dev nD) (L : grid0.Coords)

/-- The counters the body's copies raise. -/
abbrev cell0 : GSem nD τ sig := (thr d L, .dma cc0_scoped0.sem)
abbrev cell1 : GSem nD τ sig := (thr d L, .dma cc0_scoped1.sem)
abbrev cell2 : GSem nD τ sig := (thr d L, .dma cc0_scoped2.sem)

omit [FloatOps F] in
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (thr d L).2).erase ((thr d L).2.devRef cc0_scratch0)).erase
              ((thr d L).2.devRef cc0_scratch1)).erase ((thr d L).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d L).2) (b := (thr d L).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (thr d L).2) (b := (thr d L).2.devRef cc0_scratch2) rfl⟩⟩)]

/-- The task of the subcore at grid point `L`: its share of the arrays comes back with the results in it. -/
theorem tile_body (hF : (K (F := F)).Facts) (O : CellTallies nD τ sig (HIx 1)) (W : Waits sig (HIx 1)) (hO : ∀ g, O g none = 0) :
    iprop(levAts (K (F := F)).L (K (F := F)).lev ∗ emp ∗ before m d (L 0).val (L 1).val
        ∗ scopedBufs (thr d L) ∗ scopedSems0 (thr d L) ∗ owes (thr d L) O W)
      ⊢ wp frame (wpE (defs₀ (F := F)) 𝒱₀ (thr d L) none) Set.univ
          (cc0_run L xA (Memref.isWhole_whole _) pA (Memref.isWhole_whole _) rA (Memref.isWhole_whole _)
            xS (Memref.isWhole_whole _) pS (Memref.isWhole_whole _) rS (Memref.isWhole_whole _) cc0_scoped0 cc0_scoped1 cc0_scoped2)
          fun _ => iprop(after m d (L 0).val (L 1).val ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  iintro ⟨#Hlv, -, ⟨Hx, Hp, Hr⟩, ⟨H0, H1, H2, Hbufs⟩, ⟨Hv0, Hv1, Hv2, Hsems⟩, HO⟩
  ihave Hmw := (show levAts (K (F := F)).L (K (F := F)).lev ⊢ Transfers.MayWaits (thr d L) (default : HIx 1) O from
    (K (F := F)).mayWaits_none (thr := thr d L) hO) $$ Hlv
  iapply ((run_body d L (tok m d) O W).trans (wp_wand frame (wpE (defs₀ (F := F)) 𝒱₀ (thr d L) none) Set.univ)) $$ [Hx Hp Hr H0 H1 H2 Hv0 Hv1 Hv2 HO Hmw]
  · unfold inv scratch
    isplitl [Hx]; · iexact Hx
    isplitl [Hp]
    · iexists (m (pLoc d)); isplitr
      · ipureintro; exact upto_start L _ _
      · iexact Hp
    isplitl [Hr]
    · iexists (m (rLoc d)); isplitr
      · ipureintro; exact upto_start L _ _
      · iexact Hr
    isplitl [H0 H1 H2]
    · isplitl [H0]; · iexact H0
      isplitl [H1]; · iexact H1
      iexact H2
    isplitl [Hv0]; · iexact Hv0
    isplitl [Hv1]; · iexact Hv1
    isplitl [Hv2]; · iexact Hv2
    isplitl [Hmw]; · iexact Hmw
    iexists W; isplitr
    · ipureintro; exact fun p h => .inl h
    · iexact HO
  iintro %_ H
  unfold inv scratch
  icases H with ⟨Hx, ⟨%f, %hf, Hp⟩, ⟨%g, %hg, Hr⟩, ⟨H0, H1, H2⟩, Hv0, Hv1, Hv2, -, %W', %hW, HO⟩
  ihave Hp := (Entails.of_eq (pointsTo_congr (ℓ := pLoc d) (q := fullShare) (f := f) (g := pos m d) (upto_end L (Nat.le_refl _) hf))) $$ Hp
  ihave Hr := (Entails.of_eq (pointsTo_congr (ℓ := rLoc d) (q := fullShare) (f := g) (g := root m d) (upto_end L (Nat.le_refl _) hg))) $$ Hr
  isplitl [Hx Hp Hr]
  · isplitl [Hx]; · iexact Hx
    isplitl [Hp]; · iexact Hp
    iexact Hr
  isplitl [H0 H1 H2 Hbufs]
  · isplitl [H0]; · iexact H0
    isplitl [H1]; · iexact H1
    isplitl [H2]; · iexact H2
    iexact Hbufs
  isplitl [Hv0 Hv1 Hv2 Hsems]
  · isplitl [Hv0]; · iexact Hv0
    isplitl [Hv1]; · iexact Hv1
    isplitl [Hv2]; · iexact Hv2
    iexact Hsems
  iexists W'; isplitr
  · ipureintro; exact fun p h => (hW p h).imp_right .inl
  · iexact HO

end Task

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          xA (Memref.isWhole_whole _) pA (Memref.isWhole_whole _) rA (Memref.isWhole_whole _)
          xS (Memref.isWhole_whole _) pS (Memref.isWhole_whole _) rS (Memref.isWhole_whole _) cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

theorem vecSplit : (K (F := F)).VecSplit' (P m) 0 := by
  intro d c
  show (bigSep Finset.univ fun i : Fin 16 => before m d c.val i.val) ⊢ |={Set.univ}=> iprop(
      (bigSep Finset.univ fun i : Fin 16 => before m d c.val i.val)
      ∗ ((bigSep Finset.univ fun i : Fin 16 => after m d c.val i.val) -∗ bigSep Finset.univ fun i : Fin 16 => after m d c.val i.val))
  iintro H; imodintro
  isplitl [H]; · iexact H
  iintro H; iexact H

/-! ## An array whole is its subcores' rows -/

section Rows

omit [FloatOps F]

theorem rows_disjoint {c j c' j' : ℕ} (h : 2 * j + c ≠ 2 * j' + c') : Disjoint (rows c j) (rows c' j') := by
  refine Finset.disjoint_left.mpr fun i h1 h2 => h ?_
  exact (Finset.mem_filter.mp h1).2.symm.trans (Finset.mem_filter.mp h2).2

theorem rows_cover : (Finset.univ.biUnion fun c : Fin 2 => Finset.univ.biUnion fun j : Fin 16 => rows c.val j.val) = Finset.univ := by
  ext i
  have hi : (i 0).val < 4096 := (i 0).isLt
  simp only [Finset.mem_biUnion, Finset.mem_univ, true_and, iff_true]
  exact ⟨⟨(i 0).val / 128 % 2, by omega⟩, ⟨(i 0).val / 256, by omega⟩, Finset.mem_filter.mpr ⟨Finset.mem_univ _, by show _ = 2 * ((i 0).val / 256) + (i 0).val / 128 % 2; omega⟩⟩

/-- For any array of the rows' shape. -/
theorem whole_rows {ℓ : Loc nD τ sig} (R : ℕ → ℕ → Finset (Idx ℓ)) (hd : ∀ {c j c' j' : ℕ}, 2 * j + c ≠ 2 * j' + c' → Disjoint (R c j) (R c' j'))
    (hc : (Finset.univ.biUnion fun c : Fin 2 => Finset.univ.biUnion fun j : Fin 16 => R c.val j.val) = Finset.univ) (f : Buf (Elt F) ℓ) :
    (ℓ ↦{fullShare} f : sProp 𝕄) = bigSep Finset.univ fun c : Fin 2 => bigSep Finset.univ fun j : Fin 16 => ℓ ↦[R c.val j.val]{fullShare} f := by
  have h1 : ∀ c : Fin 2, (ℓ ↦[Finset.univ.biUnion fun j : Fin 16 => R c.val j.val]{fullShare} f : sProp 𝕄)
      = bigSep Finset.univ fun j : Fin 16 => ℓ ↦[R c.val j.val]{fullShare} f := fun c =>
    pointsTo_biUnion Finset.univ (fun j : Fin 16 => R c.val j.val) fun j _ j' _ h => hd (by omega)
  have h2 : (ℓ ↦[Finset.univ.biUnion fun c : Fin 2 => Finset.univ.biUnion fun j : Fin 16 => R c.val j.val]{fullShare} f : sProp 𝕄)
      = bigSep Finset.univ fun c : Fin 2 => ℓ ↦[Finset.univ.biUnion fun j : Fin 16 => R c.val j.val]{fullShare} f :=
    pointsTo_biUnion Finset.univ (fun c : Fin 2 => Finset.univ.biUnion fun j : Fin 16 => R c.val j.val) fun c _ c' _ h => by
      refine (Finset.disjoint_biUnion_left _ _ _).mpr fun j _ => (Finset.disjoint_biUnion_right _ _ _).mpr fun j' _ => hd ?_
      omega
  rw [hc] at h2
  exact h2.trans (bigSep_congr fun c _ => h1 c)

end Rows

/-- The three arrays whole are all the shares. -/
theorem shares_eq (d : Dev nD) (x p r : Vec F S4096x2050 .i32) :
    (bigSep Finset.univ fun c : Fin 2 => bigSep Finset.univ fun j : Fin 16 => share d c.val j.val x p r)
      = (iprop((xLoc d ↦{fullShare} x) ∗ (pLoc d ↦{fullShare} p) ∗ rLoc d ↦{fullShare} r) : sProp 𝕄) := by
  rw [whole_rows (ℓ := xLoc d) rows rows_disjoint rows_cover x, whole_rows (ℓ := pLoc d) rows rows_disjoint rows_cover p,
    whole_rows (ℓ := rLoc d) rows rows_disjoint rows_cover r]
  simp only [bigSep_sep']

/-! ## The launch element of the kernel's ghost state -/

def u₀ : UU := (initOf (K (F := F)).hsCells (K (F := F)).hsToks, 1)

omit [FloatOps F] in
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  have e : (bigSep Finset.univ fun thr : Thread nD τ => bigSep Finset.univ fun q : Fin 1 => (P m).x q thr) = (iprop(emp) : sProp 𝕄) := by
    show (bigSep Finset.univ fun thr : Thread nD τ => bigSep Finset.univ fun q : Fin 1 => iprop(emp)) = _
    simp only [nothing]
  rw [e, nothing]
  isplitr <;> iempintro

/-! ## `main` on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_v0_0) ∗ rLoc d ↦{fullShare} W main_v0_1) := by
  unfold unscopedBufs
  rw [show (Finset.univ.filter fun b : Ref sig .tc => ¬ b.isScoped) = {main_arg0, main_v0_0, main_v0_1} by decide,
    SparseCore.bigSep_insert' (by decide), SparseCore.bigSep_insert' (by decide), bigSep_singleton]

theorem st0_eq (d : Dev nD) : (bigSep Finset.univ fun c : Fin ((K (F := F)).nCore 0) => (P m).st 0 d c)
    = iprop((xLoc d ↦{fullShare} m (xLoc d)) ∗ (pLoc d ↦{fullShare} m (pLoc d)) ∗ rLoc d ↦{fullShare} m (rLoc d)) :=
  shares_eq d (tok m d) (m (pLoc d)) (m (rLoc d))

/-- What the launch leaves: the arrays whole, the results in them. -/
abbrev FIN (d : Dev nD) : sProp 𝕄 := iprop((xLoc d ↦{fullShare} tok m d) ∗ (pLoc d ↦{fullShare} pos m d) ∗ rLoc d ↦{fullShare} root m d)

theorem dn0_eq (d : Dev nD) : (bigSep Finset.univ fun c : Fin ((K (F := F)).nCore 0) => (P m).dn 0 d c) = FIN m d :=
  shares_eq d (tok m d) (pos m d) (root m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hin, Hts, -⟩, -⟩
  iapply ((K (F := F)).wp_run (D (F := F)) 𝒱 (EH := EH) (P := P m) κ d 0) $$ [Hst Hin Hb Hts]
  isplitr; · iexact Hctx
  isplitl [Hst]; · iexact Hst
  isplitl [Hin]
  · rw [st0_eq]; iexact Hin
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- What the final memory holds. -/
def fq (d : Dev nD) (s' : Phys nD τ sig (Elt F)) : Prop :=
  s'.mem.mem (xLoc d) = m (xLoc d) ∧ s'.mem.mem (pLoc d) = pos m d ∧ s'.mem.mem (rLoc d) = root m d

theorem hfin (d : Dev nD) (s' : Phys nD τ sig (Elt F)) : iprop(FIN m d ∗ SI s') ⊢ (⌜fq m d s'⌝ : sProp 𝕄) := by
  iintro ⟨⟨Hx, Hp, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := pos m d))) $$ [HSI Hp]
  · isplitl [HSI] <;> iassumption
  icases H with ⟨%h2, HSI, -⟩
  ihave H := (SI_pointsTo_agree (st := s') (ℓ := rLoc d) (I := Finset.univ) (q := fullShare) (f := root m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- Every device's argument is unchanged, its results are the positions and the root tokens, and every semaphore is at zero. -/
def QC : PUnit × MemSt nD τ sig (Elt F) → Prop := fun r =>
  (∀ c : Dev nD, r.2.mem (xLoc c) = m (xLoc c) ∧ r.2.mem (pLoc c) = pos m c ∧ r.2.mem (rLoc c) = root m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OfKernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.RefValue
public import proofs.«01_k».proof.Proof.Kernel.Run
public import proofs.«01_k».proof.Proof.KernelIdeal.Run
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's frame: its run keeps the tokens and ends with every counter at zero. -/
theorem frame_kernel : Cert.quiescent_Kernel := fun m ρ _ =>
  (θ_run Cert.Kernel.defs _ _).mono (fun _ h => ⟨fun c => (h.1 c).1, h.2⟩) (OfKernel.run_main (F := Bits) m ρ)

/-- The same of its idealization. -/
theorem frame_kernelIdeal : Cert.quiescent_KernelIdeal := fun m ρ _ =>
  (θ_run Cert.KernelIdeal.defs _ _).mono (fun _ h => ⟨fun c => (h.1 c).1, h.2⟩) (OfKernelIdeal.run_main (F := Ideal) m ρ)

/-- The reference's frame: it declares no semaphore, so no counter can be off zero. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel and the reference end with the position array and the root array of the same tokens. -/
theorem results_equal : Cert.algebraic_KernelIdeal_ReferenceIdeal := fun m ρ m' ρ' _ hagree =>
  ⟨fun c => OfKernelIdeal.pos m c, fun c => OfKernelIdeal.root m c,
    (θ_run Cert.KernelIdeal.defs _ _).mono (fun _ h c => ⟨(h.1 c).2.1, (h.1 c).2.2, (h.1 c).1⟩)
      (OfKernelIdeal.run_main (F := Ideal) m ρ),
    (θ_run Cert.ReferenceIdeal.defs _ _).mono
      (fun _ h c => ⟨(h c).1.trans ((Ref.pos_eq _).trans (congrArg (Value.posOf (n := 4096)) (hagree c))),
        (h c).2.1.trans ((Ref.root_eq m' c).trans (congrArg (Value.rootOf (n := 4096)) (hagree c))), (h c).2.2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, results_equal⟩

end Cert.Proof

end
